-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_one_nearest [hPre_one_nearest : Cert.Pre_one_nearest.Facts] (m : (ℓ : Loc Cert.KernelIdeal.nD Cert.KernelIdeal.τ Cert.KernelIdeal.sig) → Buf (Elt Ideal) ℓ) : Prop :=
  ∀ c : Dev Cert.KernelIdeal.nD,
    (Cert.Pre_one_nearest.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_one_nearest [hPre_one_nearest : Cert.Pre_one_nearest.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_one_nearest.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_one_nearest [hKernelIdeal : Cert.KernelIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_one_nearest m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_one_nearest [hReferenceIdeal : Cert.ReferenceIdeal.Facts] [hPre_one_nearest : Cert.Pre_one_nearest.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_one_nearest m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_one_nearest [hKernelIdeal : Cert.KernelIdeal.Facts] [hReferenceIdeal : Cert.ReferenceIdeal.Facts] [hPre_one_nearest : Cert.Pre_one_nearest.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_one_nearest m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v25_0)) (v1 : (c : Dev Cert.KernelIdeal.nD) → Buf (Elt Ideal) ((c.tc : Thread Cert.KernelIdeal.nD Cert.KernelIdeal.τ).loc Cert.KernelIdeal.main_v25_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_0) = v0 c
          ∧ r.2.mem ((c.tc : Thread Cert.KernelIdeal.nD Cert.KernelIdeal.τ).loc Cert.KernelIdeal.main_v25_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_one_nearest : Cert.Pre_one_nearest.Facts),
    quiescent_Kernel (hKernel := hKernel)
    ∧ quiescent_KernelIdeal (hKernelIdeal := hKernelIdeal)
    ∧ quiescent_KernelIdeal_pre_one_nearest (hKernelIdeal := hKernelIdeal) (hPre_one_nearest := hPre_one_nearest)
    ∧ quiescent_ReferenceIdeal (hReferenceIdeal := hReferenceIdeal)
    ∧ quiescent_ReferenceIdeal_pre_one_nearest (hReferenceIdeal := hReferenceIdeal) (hPre_one_nearest := hPre_one_nearest)
    ∧ preserves_Kernel_KernelIdeal
    ∧ algebraic_KernelIdeal_ReferenceIdeal_pre_one_nearest (hKernelIdeal := hKernelIdeal) (hReferenceIdeal := hReferenceIdeal) (hPre_one_nearest := hPre_one_nearest)
-- ==== Pre_one_nearest.lean ====
abbrev S16x256x8192 : Shape := ⟨3, ![16, 256, 8192]⟩
abbrev S16x1x8192 : Shape := ⟨3, ![16, 1, 8192]⟩
abbrev S32x256x2 : Shape := ⟨3, ![32, 256, 2]⟩
abbrev S32 : Shape := ⟨1, ![32]⟩
abbrev S512x32 : Shape := ⟨2, ![512, 32]⟩
abbrev S256x32x1 : Shape := ⟨3, ![256, 32, 1]⟩
abbrev S256 : Shape := ⟨1, ![256]⟩
abbrev S16x256x4096x2 : Shape := ⟨4, ![16, 256, 4096, 2]⟩
abbrev S16x4096x32 : Shape := ⟨3, ![16, 4096, 32]⟩
abbrev S16x32x4096 : Shape := ⟨3, ![16, 32, 4096]⟩
abbrev S1x32x1 : Shape := ⟨3, ![1, 32, 1]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S32x512 : Shape := ⟨2, ![32, 512]⟩
abbrev S65536x512 : Shape := ⟨2, ![65536, 512]⟩
abbrev S512 : Shape := ⟨1, ![512]⟩
abbrev S1x512 : Shape := ⟨2, ![1, 512]⟩

class Facts : Prop where
  shapeCasts_S16x256x8192_S16x256x4096x2 : S16x256x8192.ShapeCasts S16x256x4096x2
  transposes_S16x4096x32_S16x32x4096_0_2_1 : S16x4096x32.Transposes [0, 2, 1] S16x32x4096
  bcast_S32_S1x32x1_1 : S32.BroadcastsInDim S1x32x1 (![1] : Fin 1 → Fin S1x32x1.rank)
  bcast_S1x32x1_S16x32x4096_0_1_2 : S1x32x1.BroadcastsInDim S16x32x4096 (![0, 1, 2] : Fin 3 → Fin S16x32x4096.rank)
  transposes_S16x32x4096_S16x4096x32_0_2_1 : S16x32x4096.Transposes [0, 2, 1] S16x4096x32
  shapeCasts_S16x4096x32_S65536x32 : S16x4096x32.ShapeCasts S65536x32
  reducesTo_S65536x32_S65536_d1 : S65536x32.ReducesTo [1] S65536
  h_S_ : 0 < S_.numel
  bcast_S65536_S65536x1_0 : S65536.BroadcastsInDim S65536x1 (![0] : Fin 1 → Fin S65536x1.rank)
  transposes_S512x32_S32x512_1_0 : S512x32.Transposes [1, 0] S32x512
  bcast_S_S65536x512 : S_.BroadcastsInDim S65536x512 (![] : Fin 0 → Fin S65536x512.rank)
  bcast_S65536x1_S65536x512_0_1 : S65536x1.BroadcastsInDim S65536x512 (![0, 1] : Fin 2 → Fin S65536x512.rank)
  reducesTo_S512x32_S512_d1 : S512x32.ReducesTo [1] S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  reducesTo_S65536x512_S65536_d1 : S65536x512.ReducesTo [1] S65536
  natLt_1_32 : 1 < 32
  bcast_S_S16x256x8192 : S_.BroadcastsInDim S16x256x8192 (![] : Fin 0 → Fin S16x256x8192.rank)
  reducesTo_S16x256x8192_S_d0_1_2 : S16x256x8192.ReducesTo [0, 1, 2] S_
  bcast_S_S32x256x2 : S_.BroadcastsInDim S32x256x2 (![] : Fin 0 → Fin S32x256x2.rank)
  reducesTo_S32x256x2_S_d0_1_2 : S32x256x2.ReducesTo [0, 1, 2] S_
  bcast_S_S32 : S_.BroadcastsInDim S32 (![] : Fin 0 → Fin S32.rank)
  reducesTo_S32_S_d0 : S32.ReducesTo [0] S_
  bcast_S_S512x32 : S_.BroadcastsInDim S512x32 (![] : Fin 0 → Fin S512x32.rank)
  reducesTo_S512x32_S_d0_1 : S512x32.ReducesTo [0, 1] S_
  bcast_S_S65536 : S_.BroadcastsInDim S65536 (![] : Fin 0 → Fin S65536.rank)
  dot_S16x256x4096x2_S32x256x2_S16x4096x32_13_12_02_0_n_n_wf : DotDims.WF S16x256x4096x2 S32x256x2 S16x4096x32 [1, 3] [1, 2] [0, 2] [0] [] []
  dot_S65536x32_S32x512_S65536x512_1_0_0_1_n_n_wf : DotDims.WF S65536x32 S32x512 S65536x512 [1] [0] [0] [1] [] []

variable [Facts]

def dot_S16x256x4096x2_S32x256x2_S16x4096x32_13_12_02_0_n_n : DotDims S16x256x4096x2 S32x256x2 S16x4096x32 where
  lhsContracting := [1, 3]
  rhsContracting := [1, 2]
  lhsNonContracting := [0, 2]
  rhsNonContracting := [0]
  lhsBatch := []
  rhsBatch := []
  wf := dot_S16x256x4096x2_S32x256x2_S16x4096x32_13_12_02_0_n_n_wf
def dot_S65536x32_S32x512_S65536x512_1_0_0_1_n_n : DotDims S65536x32 S32x512 S65536x512 where
  lhsContracting := [1]
  rhsContracting := [0]
  lhsNonContracting := [0]
  rhsNonContracting := [1]
  lhsBatch := []
  rhsBatch := []
  wf := dot_S65536x32_S32x512_S65536x512_1_0_0_1_n_n_wf
def fn_part2 {F : FTy → Type} [FloatOps F] (main_arg4 : FVec F S512x32 .f32) (main_v26 : IVec S65536x512 32) (main_v35 : IVec S_ 1) (main_v38 : IVec S32 1) : IVec S65536 1 :=
  let main_c_7 : IVec S_ 1 := constantI S_ 1 1#1
  let main_v39 : IVec S_ 1 := (fun x v => Host.reduce IntOp.andi x v reducesTo_S32_S_d0 h_S_) main_v38 main_c_7
  let main_v40 : IVec S_ 1 := andi main_v35 main_v39
  let main_v41 : FVec F S512x32 .f32 := Host.absf main_arg4
  let main_cst_8 : FVec F S_ .f32 := constant S_ .f32 0x7F800000#32
  let main_v42 : FVec F S512x32 .f32 := broadcastInDim S512x32 ![] bcast_S_S512x32 main_cst_8
  let main_v43 : IVec S512x32 1 := cmpf .olt main_v41 main_v42
  let main_c_9 : IVec S_ 1 := constantI S_ 1 1#1
  let main_v44 : IVec S_ 1 := (fun x v => Host.reduce IntOp.andi x v reducesTo_S512x32_S_d0_1 h_S_) main_v43 main_c_9
  let main_v45 : IVec S_ 1 := andi main_v40 main_v44
  let main_c_10 : IVec S_ 32 := constantI S_ 32 0#32
  let main_v46 : IVec S65536 32 := (fun x v => Host.reduce IntOp.addi x v reducesTo_S65536x512_S65536_d1 h_S_) main_v26 main_c_10
  let main_c_11 : IVec S_ 32 := constantI S_ 32 1#32
  let main_v47 : IVec S65536 32 := broadcastInDim S65536 ![] bcast_S_S65536 main_c_11
  let main_v48 : IVec S65536 1 := cmpi .eq main_v46 main_v47
  let main_v49 : IVec S65536 1 := broadcastInDim S65536 ![] bcast_S_S65536 main_v45
  let main_v50 : IVec S65536 1 := andi main_v49 main_v48
  main_v50

def fn_part1 {F : FTy → Type} [FloatOps F] (main_arg0 : FVec F S16x256x8192 .f32) (main_arg2 : FVec F S32x256x2 .f32) (main_arg3 : FVec F S32 .f32) (main_arg4 : FVec F S512x32 .f32) (main_v16 : FVec F S65536x512 .f32) (main_v20 : FVec F S65536x512 .f32) : IVec S65536 1 :=
  let main_v21 : FVec F S65536x512 .f32 := addf main_v16 main_v20
  let main_cst_2 : FVec F S_ .f32 := constant S_ .f32 0x7F800000#32
  let main_v22 : FVec F S65536 .f32 := (fun x v => Host.reduce FloatOps.minimumf x v reducesTo_S65536x512_S65536_d1 h_S_) main_v21 main_cst_2
  let main_v23 : FVec F S65536x1 .f32 := broadcastInDim S65536x1 ![0] bcast_S65536_S65536x1_0 main_v22
  let main_v24 : FVec F S65536x512 .f32 := broadcastInDim S65536x512 ![0, 1] bcast_S65536x1_S65536x512_0_1 main_v23
  let main_v25 : IVec S65536x512 1 := cmpf .oeq main_v21 main_v24
  let main_v26 : IVec S65536x512 32 := (extui 32 · natLt_1_32) main_v25
  let main_v27 : FVec F S16x256x8192 .f32 := Host.absf main_arg0
  let main_cst_3 : FVec F S_ .f32 := constant S_ .f32 0x7F800000#32
  let main_v28 : FVec F S16x256x8192 .f32 := broadcastInDim S16x256x8192 ![] bcast_S_S16x256x8192 main_cst_3
  let main_v29 : IVec S16x256x8192 1 := cmpf .olt main_v27 main_v28
  let main_c : IVec S_ 1 := constantI S_ 1 1#1
  let main_v30 : IVec S_ 1 := (fun x v => Host.reduce IntOp.andi x v reducesTo_S16x256x8192_S_d0_1_2 h_S_) main_v29 main_c
  let main_v31 : FVec F S32x256x2 .f32 := Host.absf main_arg2
  let main_cst_4 : FVec F S_ .f32 := constant S_ .f32 0x7F800000#32
  let main_v32 : FVec F S32x256x2 .f32 := broadcastInDim S32x256x2 ![] bcast_S_S32x256x2 main_cst_4
  let main_v33 : IVec S32x256x2 1 := cmpf .olt main_v31 main_v32
  let main_c_5 : IVec S_ 1 := constantI S_ 1 1#1
  let main_v34 : IVec S_ 1 := (fun x v => Host.reduce IntOp.andi x v reducesTo_S32x256x2_S_d0_1_2 h_S_) main_v33 main_c_5
  let main_v35 : IVec S_ 1 := andi main_v30 main_v34
  let main_v36 : FVec F S32 .f32 := Host.absf main_arg3
  let main_cst_6 : FVec F S_ .f32 := constant S_ .f32 0x7F800000#32
  let main_v37 : FVec F S32 .f32 := broadcastInDim S32 ![] bcast_S_S32 main_cst_6
  let main_v38 : IVec S32 1 := cmpf .olt main_v36 main_v37
  fn_part2 (F := F) main_arg4 main_v26 main_v35 main_v38

def fn {F : FTy → Type} [FloatOps F] (main_arg0 : FVec F S16x256x8192 .f32) (main_arg1 : FVec F S16x1x8192 .f32) (main_arg2 : FVec F S32x256x2 .f32) (main_arg3 : FVec F S32 .f32) (main_arg4 : FVec F S512x32 .f32) (main_arg5 : FVec F S256x32x1 .f32) (main_arg6 : FVec F S256 .f32) : IVec S65536 1 :=
  let main_v0 : FVec F S16x256x4096x2 .f32 := shapeCast S16x256x4096x2 main_arg0 shapeCasts_S16x256x8192_S16x256x4096x2
  let main_v1 : FVec F S16x4096x32 .f32 := (fun l r => Host.dotGeneral dot_S16x256x4096x2_S32x256x2_S16x4096x32_13_12_02_0_n_n none l r) main_v0 main_arg2
  let main_v2 : FVec F S16x32x4096 .f32 := (transpose S16x32x4096 [0, 2, 1] · transposes_S16x4096x32_S16x32x4096_0_2_1) main_v1
  let main_v3 : FVec F S1x32x1 .f32 := broadcastInDim S1x32x1 ![1] bcast_S32_S1x32x1_1 main_arg3
  let main_v4 : FVec F S16x32x4096 .f32 := broadcastInDim S16x32x4096 ![0, 1, 2] bcast_S1x32x1_S16x32x4096_0_1_2 main_v3
  let main_v5 : FVec F S16x32x4096 .f32 := addf main_v2 main_v4
  let main_v6 : FVec F S16x4096x32 .f32 := (transpose S16x4096x32 [0, 2, 1] · transposes_S16x32x4096_S16x4096x32_0_2_1) main_v5
  let main_v7 : FVec F S65536x32 .f32 := shapeCast S65536x32 main_v6 shapeCasts_S16x4096x32_S65536x32
  let main_v8 : FVec F S65536x32 .f32 := mulf main_v7 main_v7
  let main_cst : FVec F S_ .f32 := constant S_ .f32 0x00000000#32
  let main_v9 : FVec F S65536 .f32 := (fun x v => Host.reduceAdd x v reducesTo_S65536x32_S65536_d1 h_S_) main_v8 main_cst
  let main_v10 : FVec F S65536x1 .f32 := broadcastInDim S65536x1 ![0] bcast_S65536_S65536x1_0 main_v9
  let main_v11 : FVec F S32x512 .f32 := (transpose S32x512 [1, 0] · transposes_S512x32_S32x512_1_0) main_arg4
  let main_v12 : FVec F S65536x512 .f32 := (fun l r => Host.dotGeneral dot_S65536x32_S32x512_S65536x512_1_0_0_1_n_n none l r) main_v7 main_v11
  let main_cst_0 : FVec F S_ .f32 := constant S_ .f32 0x40000000#32
  let main_v13 : FVec F S65536x512 .f32 := broadcastInDim S65536x512 ![] bcast_S_S65536x512 main_cst_0
  let main_v14 : FVec F S65536x512 .f32 := mulf main_v13 main_v12
  let main_v15 : FVec F S65536x512 .f32 := broadcastInDim S65536x512 ![0, 1] bcast_S65536x1_S65536x512_0_1 main_v10
  let main_v16 : FVec F S65536x512 .f32 := subf main_v15 main_v14
  let main_v17 : FVec F S512x32 .f32 := mulf main_arg4 main_arg4
  let main_cst_1 : FVec F S_ .f32 := constant S_ .f32 0x00000000#32
  let main_v18 : FVec F S512 .f32 := (fun x v => Host.reduceAdd x v reducesTo_S512x32_S512_d1 h_S_) main_v17 main_cst_1
  let main_v19 : FVec F S1x512 .f32 := broadcastInDim S1x512 ![1] bcast_S512_S1x512_1 main_v18
  let main_v20 : FVec F S65536x512 .f32 := broadcastInDim S65536x512 ![0, 1] bcast_S1x512_S65536x512_0_1 main_v19
  fn_part1 (F := F) main_arg0 main_arg2 main_arg3 main_arg4 main_v16 main_v20
-- ==== Kernel.lean ====
abbrev S16x256x8192 : Shape := ⟨3, ![16, 256, 8192]⟩
abbrev S16x1x8192 : Shape := ⟨3, ![16, 1, 8192]⟩
abbrev S32x256x2 : Shape := ⟨3, ![32, 256, 2]⟩
abbrev S32 : Shape := ⟨1, ![32]⟩
abbrev S512x32 : Shape := ⟨2, ![512, 32]⟩
abbrev S256x32x1 : Shape := ⟨3, ![256, 32, 1]⟩
abbrev S256 : Shape := ⟨1, ![256]⟩
abbrev S32x256x1 : Shape := ⟨3, ![32, 256, 1]⟩
abbrev S32x256 : Shape := ⟨2, ![32, 256]⟩
abbrev S64x256 : Shape := ⟨2, ![64, 256]⟩
abbrev S_ : Shape := ⟨0, ![]⟩
abbrev S512 : Shape := ⟨1, ![512]⟩
abbrev S512x1 : Shape := ⟨2, ![512, 1]⟩
abbrev S32x512 : Shape := ⟨2, ![32, 512]⟩
abbrev S256x32 : Shape := ⟨2, ![256, 32]⟩
abbrev S32x1 : Shape := ⟨2, ![32, 1]⟩
abbrev S256x1 : Shape := ⟨2, ![256, 1]⟩
abbrev S256x128 : Shape := ⟨2, ![256, 128]⟩
abbrev S256x512 : Shape := ⟨2, ![256, 512]⟩
abbrev S1x1 : Shape := ⟨2, ![1, 1]⟩
abbrev S1x256x8192 : Shape := ⟨3, ![1, 256, 8192]⟩
abbrev S1x1x8192 : Shape := ⟨3, ![1, 1, 8192]⟩
abbrev S1x256x4096 : Shape := ⟨3, ![1, 256, 4096]⟩
abbrev S256x4096 : Shape := ⟨2, ![256, 4096]⟩
abbrev S64x4096 : Shape := ⟨2, ![64, 4096]⟩
abbrev S32x4096 : Shape := ⟨2, ![32, 4096]⟩
abbrev S32x128 : Shape := ⟨2, ![32, 128]⟩
abbrev S32x2048 : Shape := ⟨2, ![32, 2048]⟩
abbrev S512x2048 : Shape := ⟨2, ![512, 2048]⟩
abbrev S2048 : Shape := ⟨1, ![2048]⟩
abbrev S1x2048 : Shape := ⟨2, ![1, 2048]⟩
abbrev S1x1x4096 : Shape := ⟨3, ![1, 1, 4096]⟩
abbrev S1x4096 : Shape := ⟨2, ![1, 4096]⟩
abbrev S1x32x2048 : Shape := ⟨3, ![1, 32, 2048]⟩
abbrev S1 : Shape := ⟨1, ![1]⟩
abbrev S1x1x1 : Shape := ⟨3, ![1, 1, 1]⟩

abbrev nBuf : Space → Nat
  | .hbm => 54
  | .vmem => 15
  | .smem => 1
  | _ => 0

abbrev bufTy : (tb : Table) → Fin (tcTables nBuf tb) → BufTy
  | .hbm, ⟨0, _⟩ => ⟨S16x256x8192, .f32⟩
  | .hbm, ⟨1, _⟩ => ⟨S16x1x8192, .f32⟩
  | .hbm, ⟨2, _⟩ => ⟨S32x256x2, .f32⟩
  | .hbm, ⟨3, _⟩ => ⟨S32, .f32⟩
  | .hbm, ⟨4, _⟩ => ⟨S512x32, .f32⟩
  | .hbm, ⟨5, _⟩ => ⟨S256x32x1, .f32⟩
  | .hbm, ⟨6, _⟩ => ⟨S256, .f32⟩
  | .hbm, ⟨7, _⟩ => ⟨S32x256x1, .f32⟩
  | .hbm, ⟨8, _⟩ => ⟨S32x256, .f32⟩
  | .hbm, ⟨9, _⟩ => ⟨S32x256x1, .f32⟩
  | .hbm, ⟨10, _⟩ => ⟨S32x256, .f32⟩
  | .hbm, ⟨11, _⟩ => ⟨S64x256, .f32⟩
  | .hbm, ⟨12, _⟩ => ⟨S_, .f32⟩
  | .hbm, ⟨13, _⟩ => ⟨S512x32, .f32⟩
  | .hbm, ⟨14, _⟩ => ⟨S512x32, .f32⟩
  | .hbm, ⟨15, _⟩ => ⟨S512x32, .f32⟩
  | .hbm, ⟨16, _⟩ => ⟨S_, .f32⟩
  | .hbm, ⟨17, _⟩ => ⟨S512, .f32⟩
  | .hbm, ⟨18, _⟩ => ⟨S512x1, .f32⟩
  | .hbm, ⟨19, _⟩ => ⟨S32x512, .f32⟩
  | .hbm, ⟨20, _⟩ => ⟨S256x32, .f32⟩
  | .hbm, ⟨21, _⟩ => ⟨S32x1, .f32⟩
  | .hbm, ⟨22, _⟩ => ⟨S256x1, .f32⟩
  | .hbm, ⟨23, _⟩ => ⟨S256x128, .i32⟩
  | .hbm, ⟨24, _⟩ => ⟨S256x128, .i32⟩
  | .hbm, ⟨25, _⟩ => ⟨S_, .i32⟩
  | .hbm, ⟨26, _⟩ => ⟨S256x128, .i32⟩
  | .hbm, ⟨27, _⟩ => ⟨S256x128, .i32⟩
  | .hbm, ⟨28, _⟩ => ⟨S256x128, .i1⟩
  | .hbm, ⟨29, _⟩ => ⟨S256x128, .bf16⟩
  | .hbm, ⟨30, _⟩ => ⟨S256x512, .i32⟩
  | .hbm, ⟨31, _⟩ => ⟨S256x512, .i32⟩
  | .hbm, ⟨32, _⟩ => ⟨S_, .i32⟩
  | .hbm, ⟨33, _⟩ => ⟨S_, .i32⟩
  | .hbm, ⟨34, _⟩ => ⟨S256x512, .i32⟩
  | .hbm, ⟨35, _⟩ => ⟨S256x512, .i32⟩
  | .hbm, ⟨36, _⟩ => ⟨S256x512, .i32⟩
  | .hbm, ⟨37, _⟩ => ⟨S_, .i32⟩
  | .hbm, ⟨38, _⟩ => ⟨S256x512, .i32⟩
  | .hbm, ⟨39, _⟩ => ⟨S256x512, .i1⟩
  | .hbm, ⟨40, _⟩ => ⟨S256x512, .i32⟩
  | .hbm, ⟨41, _⟩ => ⟨S256x512, .i32⟩
  | .hbm, ⟨42, _⟩ => ⟨S_, .i32⟩
  | .hbm, ⟨43, _⟩ => ⟨S256x512, .i32⟩
  | .hbm, ⟨44, _⟩ => ⟨S256x512, .i1⟩
  | .hbm, ⟨45, _⟩ => ⟨S256x512, .i1⟩
  | .hbm, ⟨46, _⟩ => ⟨S_, .i32⟩
  | .hbm, ⟨47, _⟩ => ⟨S256x512, .i32⟩
  | .hbm, ⟨48, _⟩ => ⟨S256x512, .i32⟩
  | .hbm, ⟨49, _⟩ => ⟨S256x512, .i32⟩
  | .hbm, ⟨50, _⟩ => ⟨S256x512, .i1⟩
  | .hbm, ⟨51, _⟩ => ⟨S256x512, .bf16⟩
  | .hbm, ⟨52, _⟩ => ⟨S16x256x8192, .f32⟩
  | .hbm, ⟨53, _⟩ => ⟨S1x1, .f32⟩
  | .local _ .vmem, ⟨0, _⟩ => ⟨S1x256x8192, .f32⟩
  | .local _ .vmem, ⟨1, _⟩ => ⟨S1x256x8192, .f32⟩
  | .local _ .vmem, ⟨2, _⟩ => ⟨S1x1x8192, .f32⟩
  | .local _ .vmem, ⟨3, _⟩ => ⟨S1x1x8192, .f32⟩
  | .local _ .vmem, ⟨4, _⟩ => ⟨S64x256, .f32⟩
  | .local _ .vmem, ⟨5, _⟩ => ⟨S32x1, .f32⟩
  | .local _ .vmem, ⟨6, _⟩ => ⟨S512x32, .f32⟩
  | .local _ .vmem, ⟨7, _⟩ => ⟨S512x1, .f32⟩
  | .local _ .vmem, ⟨8, _⟩ => ⟨S32x512, .f32⟩
  | .local _ .vmem, ⟨9, _⟩ => ⟨S256x32, .f32⟩
  | .local _ .vmem, ⟨10, _⟩ => ⟨S256x1, .f32⟩
  | .local _ .vmem, ⟨11, _⟩ => ⟨S256x128, .bf16⟩
  | .local _ .vmem, ⟨12, _⟩ => ⟨S256x512, .bf16⟩
  | .local _ .vmem, ⟨13, _⟩ => ⟨S1x256x8192, .f32⟩
  | .local _ .vmem, ⟨14, _⟩ => ⟨S1x256x8192, .f32⟩
  | .local _ .smem, ⟨0, _⟩ => ⟨S1x1, .f32⟩
  | _, _ => ⟨S16x256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_c : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_0 : Ref sig .tc := ⟨.hbm, 46, rfl⟩
abbrev main_call0_v12 : Ref sig .tc := ⟨.hbm, 47, rfl⟩
abbrev main_call0_v13 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25_0 : Ref sig .tc := ⟨.hbm, 52, rfl⟩
abbrev main_v25_1 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .smem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S16x256x8192 : Shape := ⟨3, ![16, 256, 8192]⟩
abbrev S16x1x8192 : Shape := ⟨3, ![16, 1, 8192]⟩
abbrev S32x256x2 : Shape := ⟨3, ![32, 256, 2]⟩
abbrev S32 : Shape := ⟨1, ![32]⟩
abbrev S512x32 : Shape := ⟨2, ![512, 32]⟩
abbrev S256x32x1 : Shape := ⟨3, ![256, 32, 1]⟩
abbrev S256 : Shape := ⟨1, ![256]⟩
abbrev S16x256x4096x2 : Shape := ⟨4, ![16, 256, 4096, 2]⟩
abbrev S16x4096x32 : Shape := ⟨3, ![16, 4096, 32]⟩
abbrev S16x32x4096 : Shape := ⟨3, ![16, 32, 4096]⟩
abbrev S1x32x1 : Shape := ⟨3, ![1, 32, 1]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S32x512 : Shape := ⟨2, ![32, 512]⟩
abbrev S65536x512 : Shape := ⟨2, ![65536, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S16x32x4096x2 : Shape := ⟨4, ![16, 32, 4096, 2]⟩
abbrev S16x32x8192 : Shape := ⟨3, ![16, 32, 8192]⟩
abbrev S256x32 : Shape := ⟨2, ![256, 32]⟩
abbrev S16x8192x256 : Shape := ⟨3, ![16, 8192, 256]⟩
abbrev S1x256x1 : Shape := ⟨3, ![1, 256, 1]⟩

abbrev nBuf : Space → Nat
  | .hbm => 82
  | .vmem => 0
  | .smem => 0
  | _ => 0

abbrev bufTy : (tb : Table) → Fin (tcTables nBuf tb) → BufTy
  | .hbm, ⟨0, _⟩ => ⟨S16x256x8192, .f32⟩
  | .hbm, ⟨1, _⟩ => ⟨S16x1x8192, .f32⟩
  | .hbm, ⟨2, _⟩ => ⟨S32x256x2, .f32⟩
  | .hbm, ⟨3, _⟩ => ⟨S32, .f32⟩
  | .hbm, ⟨4, _⟩ => ⟨S512x32, .f32⟩
  | .hbm, ⟨5, _⟩ => ⟨S256x32x1, .f32⟩
  | .hbm, ⟨6, _⟩ => ⟨S256, .f32⟩
  | .hbm, ⟨7, _⟩ => ⟨S16x256x4096x2, .f32⟩
  | .hbm, ⟨8, _⟩ => ⟨S16x4096x32, .f32⟩
  | .hbm, ⟨9, _⟩ => ⟨S16x32x4096, .f32⟩
  | .hbm, ⟨10, _⟩ => ⟨S1x32x1, .f32⟩
  | .hbm, ⟨11, _⟩ => ⟨S16x32x4096, .f32⟩
  | .hbm, ⟨12, _⟩ => ⟨S16x32x4096, .f32⟩
  | .hbm, ⟨13, _⟩ => ⟨S16x4096x32, .f32⟩
  | .hbm, ⟨14, _⟩ => ⟨S65536x32, .f32⟩
  | .hbm, ⟨15, _⟩ => ⟨S65536x32, .f32⟩
  | .hbm, ⟨16, _⟩ => ⟨S_, .f32⟩
  | .hbm, ⟨17, _⟩ => ⟨S65536, .f32⟩
  | .hbm, ⟨18, _⟩ => ⟨S65536x1, .f32⟩
  | .hbm, ⟨19, _⟩ => ⟨S32x512, .f32⟩
  | .hbm, ⟨20, _⟩ => ⟨S65536x512, .f32⟩
  | .hbm, ⟨21, _⟩ => ⟨S_, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | .hbm, ⟨26, _⟩ => ⟨S512x32, .f32⟩
  | .hbm, ⟨27, _⟩ => ⟨S_, .f32⟩
  | .hbm, ⟨28, _⟩ => ⟨S512, .f32⟩
  | .hbm, ⟨29, _⟩ => ⟨S1x512, .f32⟩
  | .hbm, ⟨30, _⟩ => ⟨S65536x512, .f32⟩
  | .hbm, ⟨31, _⟩ => ⟨S65536x512, .f32⟩
  | .hbm, ⟨32, _⟩ => ⟨S65536x512, .i32⟩
  | .hbm, ⟨33, _⟩ => ⟨S_, .f32⟩
  | .hbm, ⟨34, _⟩ => ⟨S_, .i32⟩
  | .hbm, ⟨35, _⟩ => ⟨S65536, .f32⟩
  | .hbm, ⟨36, _⟩ => ⟨S65536, .i32⟩
  | .hbm, ⟨37, _⟩ => ⟨S_, .i32⟩
  | .hbm, ⟨38, _⟩ => ⟨S65536, .i32⟩
  | .hbm, ⟨39, _⟩ => ⟨S65536, .i1⟩
  | .hbm, ⟨40, _⟩ => ⟨S_, .i32⟩
  | .hbm, ⟨41, _⟩ => ⟨S65536, .i32⟩
  | .hbm, ⟨42, _⟩ => ⟨S65536, .i32⟩
  | .hbm, ⟨43, _⟩ => ⟨S65536, .i32⟩
  | .hbm, ⟨44, _⟩ => ⟨S65536x1, .i32⟩
  | .hbm, ⟨45, _⟩ => ⟨S1, .i32⟩
  | .hbm, ⟨46, _⟩ => ⟨S_, .i32⟩
  | .hbm, ⟨47, _⟩ => ⟨S65536x1, .i32⟩
  | .hbm, ⟨48, _⟩ => ⟨S65536x1, .i1⟩
  | .hbm, ⟨49, _⟩ => ⟨S1x1, .i32⟩
  | .hbm, ⟨50, _⟩ => ⟨S65536x1, .i32⟩
  | .hbm, ⟨51, _⟩ => ⟨S65536x1, .i1⟩
  | .hbm, ⟨52, _⟩ => ⟨S65536x1, .i1⟩
  | .hbm, ⟨53, _⟩ => ⟨S_, .i1⟩
  | .hbm, ⟨54, _⟩ => ⟨S65536, .i1⟩
  | .hbm, ⟨55, _⟩ => ⟨S65536x32, .f32⟩
  | .hbm, ⟨56, _⟩ => ⟨S65536x32, .i1⟩
  | .hbm, ⟨57, _⟩ => ⟨S_, .f32⟩
  | .hbm, ⟨58, _⟩ => ⟨S65536x32, .f32⟩
  | .hbm, ⟨59, _⟩ => ⟨S65536x32, .f32⟩
  | .hbm, ⟨60, _⟩ => ⟨S16x4096x32, .f32⟩
  | .hbm, ⟨61, _⟩ => ⟨S16x4096x32, .f32⟩
  | .hbm, ⟨62, _⟩ => ⟨S16x4096x32, .f32⟩
  | .hbm, ⟨63, _⟩ => ⟨S16x4096x32, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S16x4096x32, .f32⟩
  | .hbm, ⟨69, _⟩ => ⟨S16x4096x32, .f32⟩
  | .hbm, ⟨70, _⟩ => ⟨S16x32x4096, .f32⟩
  | .hbm, ⟨71, _⟩ => ⟨S16x32x4096x2, .f32⟩
  | .hbm, ⟨72, _⟩ => ⟨S16x32x8192, .f32⟩
  | .hbm, ⟨73, _⟩ => ⟨S256x32, .f32⟩
  | .hbm, ⟨74, _⟩ => ⟨S16x8192x256, .f32⟩
  | .hbm, ⟨75, _⟩ => ⟨S16x256x8192, .f32⟩
  | .hbm, ⟨76, _⟩ => ⟨S1x256x1, .f32⟩
  | .hbm, ⟨77, _⟩ => ⟨S16x256x8192, .f32⟩
  | .hbm, ⟨78, _⟩ => ⟨S16x256x8192, .f32⟩
  | .hbm, ⟨79, _⟩ => ⟨S16x256x8192, .f32⟩
  | .hbm, ⟨80, _⟩ => ⟨S16x256x8192, .f32⟩
  | .hbm, ⟨81, _⟩ => ⟨S1x1, .f32⟩
  | _, _ => ⟨S16x256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call0_v0 : Ref sig .tc := ⟨.hbm, 32, rfl⟩
abbrev main_call0_cst : Ref sig .tc := ⟨.hbm, 33, rfl⟩
abbrev main_call0_c : Ref sig .tc := ⟨.hbm, 34, rfl⟩
abbrev main_call0_v1_0 : Ref sig .tc := ⟨.hbm, 35, rfl⟩
abbrev main_v22 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_cst_2 : Ref sig .tc := ⟨.hbm, 64, rfl⟩
abbrev main_v28 : Ref sig .tc := ⟨.hbm, 65, rfl⟩
abbrev main_cst_3 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩

abbrev nD : Nat := 1
abbrev τ : Topo := Topo.v7x

variable {F : FTy → Type} [FloatOps F]
-- ==== Proof.K.Chunk.lean ====
/-
The values one grid point of the kernel computes, for one half (4096 lanes) of its block of `x`.

The body treats its two halves alike, so each definition below is stated once, over the vectors the body loads, and
`Body.lean` says that both halves store these values.
-/
module

public import proofs.«01_k».proof.Proof.Gen.KernelIdeal.Frame

@[expose] public section

noncomputable section

namespace Cert.VQ

open Cert.KernelIdeal Cert.KernelIdeal.Gen Idealize.ShloMosaic

variable {F : FTy → Type} [FloatOps F]

/-- The 256 lanes from `256 * k` lie in the 4096 lanes. -/
theorem slicesE (k : Fin 16) : S32x4096.Slices ![0, 256 * k.val] S32x256 := by revert k; decide

/-- The 256 lanes from `256 * k` lie in the 2048 lanes. -/
theorem slicesU (k : Fin 8) : S32x2048.Slices ![0, 256 * k.val] S32x256 := by revert k; decide

/-- 128 of the even lanes: the 256 lanes from `256 * k` of each of the three parts times the selection matrix `E`. -/
def piece (E : FVec F S256x128 .bf16) (G1 G2 G3 : FVec F S32x4096 .bf16) (k : Fin 16) : FVec F S32x128 .f32 :=
  addf (addf
    (matmul dot_S32x256_S256x128_S32x128_1_0_0_1_n_n none (extractStridedSlice S32x256 ![0, 256 * k.val] G1 (slicesE k)) E
      (constant S32x128 .f32 0x00000000#32))
    (matmul dot_S32x256_S256x128_S32x128_1_0_0_1_n_n none (extractStridedSlice S32x256 ![0, 256 * k.val] G2 (slicesE k)) E
      (constant S32x128 .f32 0x00000000#32)))
    (matmul dot_S32x256_S256x128_S32x128_1_0_0_1_n_n none (extractStridedSlice S32x256 ![0, 256 * k.val] G3 (slicesE k)) E
      (constant S32x128 .f32 0x00000000#32))

/-- The even lanes of the three-part sum `G1 + G2 + G3`: the 16 pieces side by side. -/
def evens (E : FVec F S256x128 .bf16) (G1 G2 G3 : FVec F S32x4096 .bf16) : FVec F S32x2048 .f32 :=
  concatenate S32x2048 1 (List.ofFn fun k : Fin 16 => ⟨S32x128, piece E G1 G2 G3 k⟩)
    concatenates_S32x128_S32x128_S32x128_S32x128_S32x128_S32x128_S32x128_S32x128_S32x128_S32x128_S32x128_S32x128_S32x128_S32x128_S32x128_S32x128_S32x2048_d1

/-- The latents of one half: the convolution at the even lanes. -/
def lat (E : Vec F S256x128 .bf16) (X : Vec F S1x256x4096 .f32) (W : Vec F S64x256 .f32) (Bi : Vec F S32x1 .f32) :
    FVec F S32x2048 .f32 :=
  evens (k0_pay2 E) (k0_pay5 X W Bi) (k0_pay7 X W Bi) (k0_pay8 X W Bi)

/-- The distance of every latent to every code, up to the latent's own square. -/
def dist (A : Vec F S512x32 .f32) (C : Vec F S512x1 .f32) (z : FVec F S32x2048 .f32) : FVec F S512x2048 .f32 :=
  addf (matmul dot_S512x32_S32x2048_S512x2048_1_0_0_1_n_n none (shapeCast S512x32 A shapeCasts_S512x32_S512x32) z
      (constant S512x2048 .f32 0x00000000#32))
    (broadcastTo S512x2048 (shapeCast S512x1 C shapeCasts_S512x1_S512x1) broadcasts_S512x1_S512x2048)

/-- One at the codes whose distance is the least of their column, zero elsewhere. -/
def hot (d : FVec F S512x2048 .f32) : FVec F S512x2048 .f32 :=
  select (cmpf .oeq d (broadcastTo S512x2048 (shapeCast S1x2048
      (multiReduction .minimumf [0] S2048 d 0x7F800000#32 reduces_S512x2048_S2048 (.inl rfl) rfl) shapeCasts_S2048_S1x2048)
      broadcasts_S1x2048_S512x2048))
    (broadcast S512x2048 (Scalar.ofBits .f32 0x3F800000#32)) (broadcast S512x2048 (Scalar.ofBits .f32 0x00000000#32))

/-- The chosen codes. -/
def codes (Q : Vec F S32x512 .f32) (h : FVec F S512x2048 .f32) : FVec F S32x2048 .f32 :=
  matmul dot_S32x512_S512x2048_S32x2048_1_0_0_1_n_n none (shapeCast S32x512 Q shapeCasts_S32x512_S32x512) h
    (constant S32x2048 .f32 0x00000000#32)

/-- 512 lanes of the codes with every lane doubled: 256 lanes times the doubling matrix `D`. -/
def twice (D : FVec F S256x512 .bf16) (q : FVec F S32x2048 .bf16) (k : Fin 8) : FVec F S32x512 .f32 :=
  matmul dot_S32x256_S256x512_S32x512_1_0_0_1_n_n none (extractStridedSlice S32x256 ![0, 256 * k.val] q (slicesU k)) D
    (constant S32x512 .f32 0x00000000#32)

/-- The codes with every lane doubled. -/
def doubled (D : FVec F S256x512 .bf16) (q : FVec F S32x2048 .bf16) : FVec F S32x4096 .f32 :=
  concatenate S32x4096 1 (List.ofFn fun k : Fin 8 => ⟨S32x512, twice D q k⟩)
    concatenates_S32x512_S32x512_S32x512_S32x512_S32x512_S32x512_S32x512_S32x512_S32x4096_d1

/-- The output of one half from its chosen codes. -/
def outOf (D : Vec F S256x512 .bf16) (O : Vec F S256x32 .f32) (Bo : Vec F S256x1 .f32) (M : Vec F S1x1x4096 .f32)
    (q : FVec F S32x2048 .f32) : FVec F S1x256x4096 .f32 :=
  shapeCast S1x256x4096 (mulf
    (addf (matmul dot_S256x32_S32x4096_S256x4096_1_0_0_1_n_n none (shapeCast S256x32 O shapeCasts_S256x32_S256x32)
        (doubled (k0_pay3 D) (truncf .bf16 q bitsLt_bf16_f32)) (constant S256x4096 .f32 0x00000000#32))
      (broadcastTo S256x4096 (shapeCast S256x1 Bo shapeCasts_S256x1_S256x1) broadcasts_S256x1_S256x4096))
    (broadcastTo S256x4096 (shapeCast S1x4096 M shapeCasts_S1x1x4096_S1x4096) broadcasts_S1x4096_S256x4096))
    shapeCasts_S256x4096_S1x256x4096

/-- The sum of the squared differences of one half's codes and latents. -/
def sqOf (q z : FVec F S32x2048 .f32) : F .f32 :=
  extractAt ![0, 0, 0] (shapeCast S1x1x1 (multiReduction .add [1, 2] S1
    (shapeCast S1x32x2048 (mulf (subf q z) (subf q z)) shapeCasts_S32x2048_S1x32x2048)
    0x00000000#32 reduces_S1x32x2048_S1 (.inl rfl) rfl) shapeCasts_S1_S1x1x1) inpos_S1x1x1_p0_0_0

/-- A grid point's share of the loss from the two sums of its halves. -/
def share (s0 s1 : F .f32) : F .f32 :=
  Scalar.addf (Scalar.addf (Scalar.ofBits .f32 0x00000000#32) (Scalar.mulf s0 (Scalar.ofBits .f32 0x35000000#32)))
    (Scalar.mulf s1 (Scalar.ofBits .f32 0x35000000#32))

/-- The chosen codes of one half from what the body loads. -/
def chosen (E : Vec F S256x128 .bf16) (X : Vec F S1x256x4096 .f32) (W : Vec F S64x256 .f32) (Bi : Vec F S32x1 .f32)
    (A : Vec F S512x32 .f32) (C : Vec F S512x1 .f32) (Q : Vec F S32x512 .f32) : FVec F S32x2048 .f32 :=
  codes Q (hot (dist A C (lat E X W Bi)))

/-- The lower half of a block of `x`. -/
def xLo (x : Vec F S1x256x8192 .f32) : Vec F S1x256x4096 .f32 :=
  View.ld x (Rect.unit (s := S1x256x8192) ![0, 0, 0] S1x256x4096.size inb_S1x256x8192_S1x256x4096_0_0_0)

/-- The upper half of a block of `x`. -/
def xHi (x : Vec F S1x256x8192 .f32) : Vec F S1x256x4096 .f32 :=
  View.ld x (Rect.unit (s := S1x256x8192) ![0, 0, 4096] S1x256x4096.size inb_S1x256x8192_S1x256x4096_0_0_4096)

/-- The lower half of a block of the mask. -/
def mLo (x : Vec F S1x1x8192 .f32) : Vec F S1x1x4096 .f32 :=
  View.ld x (Rect.unit (s := S1x1x8192) ![0, 0, 0] S1x1x4096.size inb_S1x1x8192_S1x1x4096_0_0_0)

/-- The upper half of a block of the mask. -/
def mHi (x : Vec F S1x1x8192 .f32) : Vec F S1x1x4096 .f32 :=
  View.ld x (Rect.unit (s := S1x1x8192) ![0, 0, 4096] S1x1x4096.size inb_S1x1x8192_S1x1x4096_0_0_4096)

end Cert.VQ
-- ==== Proof.K.Body.lean ====
/-
What one grid point of the kernel leaves in its two output blocks, in terms of the values of `Chunk.lean`.
-/
module

public import proofs.«01_k».proof.Proof.K.Chunk
public import Idealize.ShloMosaic.Lib.Pipeline.Value
public import Idealize.ShloMosaic.Lib.ValueIdx

@[expose] public section

noncomputable section

namespace Cert.VQ

open Cert.KernelIdeal Cert.KernelIdeal.Gen Idealize.ShloMosaic Idealize.ShloMosaic.TcCoe Idealize.ShloMosaic.Tactic Idealize.ShloMosaic.ValueIdx

variable {F : FTy → Type} [FloatOps F]

variable (E : Vec F S256x128 .bf16) (X : Vec F S1x256x4096 .f32) (W : Vec F S64x256 .f32) (Bi : Vec F S32x1 .f32)
  (A : Vec F S512x32 .f32) (C : Vec F S512x1 .f32) (Q : Vec F S32x512 .f32) (D : Vec F S256x512 .bf16)
  (O : Vec F S256x32 .f32) (Bo : Vec F S256x1 .f32) (M : Vec F S1x1x4096 .f32) (z q : FVec F S32x2048 .f32)
  (h : FVec F S512x2048 .f32)

/-- The lower half's latents. -/
theorem lat_lo :
    k0_pay27 (k0_pay2 E) (k0_pay5 X W Bi) (k0_pay7 X W Bi) (k0_pay8 X W Bi) (k0_pay9 E X W Bi) (k0_pay12 (k0_pay10 E X W Bi) (k0_pay11 E X W Bi))
      (k0_pay13 (k0_pay2 E) (k0_pay5 X W Bi) (k0_pay7 X W Bi) (k0_pay8 X W Bi)) (k0_pay14 (k0_pay2 E) (k0_pay5 X W Bi) (k0_pay7 X W Bi) (k0_pay8 X W Bi))
      (k0_pay15 (k0_pay2 E) (k0_pay5 X W Bi) (k0_pay7 X W Bi) (k0_pay8 X W Bi)) (k0_pay16 (k0_pay2 E) (k0_pay5 X W Bi) (k0_pay7 X W Bi) (k0_pay8 X W Bi))
      (k0_pay17 (k0_pay2 E) (k0_pay5 X W Bi) (k0_pay7 X W Bi) (k0_pay8 X W Bi)) (k0_pay20 (k0_pay2 E) (k0_pay8 X W Bi) (k0_pay18 (k0_pay2 E) (k0_pay5 X W Bi)) (k0_pay19 (k0_pay7 X W Bi)))
      (k0_pay21 (k0_pay2 E) (k0_pay5 X W Bi) (k0_pay7 X W Bi) (k0_pay8 X W Bi)) (k0_pay22 (k0_pay2 E) (k0_pay5 X W Bi) (k0_pay7 X W Bi) (k0_pay8 X W Bi))
      (k0_pay23 (k0_pay2 E) (k0_pay5 X W Bi) (k0_pay7 X W Bi) (k0_pay8 X W Bi)) (k0_pay24 (k0_pay2 E) (k0_pay5 X W Bi) (k0_pay7 X W Bi) (k0_pay8 X W Bi))
      (k0_pay25 (k0_pay2 E) (k0_pay5 X W Bi) (k0_pay7 X W Bi)) (k0_pay26 (k0_pay8 X W Bi)) (constant S32x128 .f32 0x00000000#32) = lat E X W Bi := rfl

/-- The lower half's indicator of the nearest codes. -/
theorem hot_lo :
    k0_pay28 (k0_pay2 E) (k0_pay5 X W Bi) (k0_pay7 X W Bi) (k0_pay8 X W Bi) (k0_pay9 E X W Bi) (k0_pay12 (k0_pay10 E X W Bi) (k0_pay11 E X W Bi))
      (k0_pay13 (k0_pay2 E) (k0_pay5 X W Bi) (k0_pay7 X W Bi) (k0_pay8 X W Bi)) (k0_pay14 (k0_pay2 E) (k0_pay5 X W Bi) (k0_pay7 X W Bi) (k0_pay8 X W Bi))
      (k0_pay15 (k0_pay2 E) (k0_pay5 X W Bi) (k0_pay7 X W Bi) (k0_pay8 X W Bi)) (k0_pay16 (k0_pay2 E) (k0_pay5 X W Bi) (k0_pay7 X W Bi) (k0_pay8 X W Bi))
      (k0_pay17 (k0_pay2 E) (k0_pay5 X W Bi) (k0_pay7 X W Bi) (k0_pay8 X W Bi)) (k0_pay20 (k0_pay2 E) (k0_pay8 X W Bi) (k0_pay18 (k0_pay2 E) (k0_pay5 X W Bi)) (k0_pay19 (k0_pay7 X W Bi)))
      (k0_pay21 (k0_pay2 E) (k0_pay5 X W Bi) (k0_pay7 X W Bi) (k0_pay8 X W Bi)) (k0_pay22 (k0_pay2 E) (k0_pay5 X W Bi) (k0_pay7 X W Bi) (k0_pay8 X W Bi))
      (k0_pay23 (k0_pay2 E) (k0_pay5 X W Bi) (k0_pay7 X W Bi) (k0_pay8 X W Bi)) (k0_pay24 (k0_pay2 E) (k0_pay5 X W Bi) (k0_pay7 X W Bi) (k0_pay8 X W Bi))
      (k0_pay25 (k0_pay2 E) (k0_pay5 X W Bi) (k0_pay7 X W Bi)) (k0_pay26 (k0_pay8 X W Bi)) (constant S32x128 .f32 0x00000000#32) A C
      = hot (dist A C (lat E X W Bi)) := by
  rw [← lat_lo]; rfl

/-- The upper half's latents. -/
theorem lat_hi :
    k0_pay54 (k0_pay2 E) (k0_pay34 X W Bi) (k0_pay36 X W Bi) (k0_pay37 X W Bi) (k0_pay38 (k0_pay2 E) X W Bi) (k0_pay39 (k0_pay2 E) X W Bi)
      (k0_pay41 (k0_pay2 E) (k0_pay36 X W Bi) (k0_pay37 X W Bi) (k0_pay40 X W Bi) (constant S32x128 .f32 0x00000000#32))
      (k0_pay42 (k0_pay2 E) (k0_pay34 X W Bi) (k0_pay36 X W Bi) (k0_pay37 X W Bi)) (k0_pay43 (k0_pay2 E) (k0_pay34 X W Bi) (k0_pay36 X W Bi) (k0_pay37 X W Bi))
      (k0_pay44 (k0_pay2 E) (k0_pay34 X W Bi) (k0_pay36 X W Bi) (k0_pay37 X W Bi)) (k0_pay45 (k0_pay2 E) (k0_pay34 X W Bi) (k0_pay36 X W Bi) (k0_pay37 X W Bi))
      (k0_pay47 (k0_pay2 E) (k0_pay37 X W Bi) (k0_pay46 (k0_pay2 E) (k0_pay34 X W Bi) (k0_pay36 X W Bi))) (k0_pay48 (k0_pay2 E) (k0_pay34 X W Bi) (k0_pay36 X W Bi) (k0_pay37 X W Bi))
      (k0_pay49 (k0_pay2 E) (k0_pay34 X W Bi) (k0_pay36 X W Bi) (k0_pay37 X W Bi)) (k0_pay50 (k0_pay2 E) (k0_pay34 X W Bi) (k0_pay36 X W Bi) (k0_pay37 X W Bi))
      (k0_pay51 (k0_pay2 E) (k0_pay34 X W Bi) (k0_pay36 X W Bi) (k0_pay37 X W Bi)) (k0_pay52 (k0_pay2 E) (k0_pay34 X W Bi) (k0_pay36 X W Bi) (k0_pay37 X W Bi))
      (k0_pay53 (k0_pay34 X W Bi)) = lat E X W Bi := rfl

/-- The upper half's indicator of the nearest codes. -/
theorem hot_hi :
    k0_pay55 (k0_pay2 E) (k0_pay34 X W Bi) (k0_pay36 X W Bi) (k0_pay37 X W Bi) (k0_pay38 (k0_pay2 E) X W Bi) (k0_pay39 (k0_pay2 E) X W Bi)
      (k0_pay41 (k0_pay2 E) (k0_pay36 X W Bi) (k0_pay37 X W Bi) (k0_pay40 X W Bi) (constant S32x128 .f32 0x00000000#32))
      (k0_pay42 (k0_pay2 E) (k0_pay34 X W Bi) (k0_pay36 X W Bi) (k0_pay37 X W Bi)) (k0_pay43 (k0_pay2 E) (k0_pay34 X W Bi) (k0_pay36 X W Bi) (k0_pay37 X W Bi))
      (k0_pay44 (k0_pay2 E) (k0_pay34 X W Bi) (k0_pay36 X W Bi) (k0_pay37 X W Bi)) (k0_pay45 (k0_pay2 E) (k0_pay34 X W Bi) (k0_pay36 X W Bi) (k0_pay37 X W Bi))
      (k0_pay47 (k0_pay2 E) (k0_pay37 X W Bi) (k0_pay46 (k0_pay2 E) (k0_pay34 X W Bi) (k0_pay36 X W Bi))) (k0_pay48 (k0_pay2 E) (k0_pay34 X W Bi) (k0_pay36 X W Bi) (k0_pay37 X W Bi))
      (k0_pay49 (k0_pay2 E) (k0_pay34 X W Bi) (k0_pay36 X W Bi) (k0_pay37 X W Bi)) (k0_pay50 (k0_pay2 E) (k0_pay34 X W Bi) (k0_pay36 X W Bi) (k0_pay37 X W Bi))
      (k0_pay51 (k0_pay2 E) (k0_pay34 X W Bi) (k0_pay36 X W Bi) (k0_pay37 X W Bi)) (k0_pay52 (k0_pay2 E) (k0_pay34 X W Bi) (k0_pay36 X W Bi) (k0_pay37 X W Bi))
      (k0_pay53 (k0_pay34 X W Bi)) A C
      = hot (dist A C (lat E X W Bi)) := by
  rw [← lat_hi]; rfl

/-- The lower half's output. -/
theorem out_lo : k0_pay30 (k0_pay3 D) h Q O Bo M = outOf D O Bo M (codes Q h) := rfl

/-- The upper half's output. -/
theorem out_hi : k0_pay58 (k0_pay3 D) h (k0_pay56 Q) (constant S32x2048 .f32 0x00000000#32) O Bo M = outOf D O Bo M (codes Q h) := rfl

/-- The grid point's share of the loss added to what the buffer held. -/
theorem loss_add (h0 h1 : FVec F S512x2048 .f32) (z0 z1 : FVec F S32x2048 .f32) (p : F .f32) :
    k0_pay1 (k0_pay32 (k0_pay31 z0 h0 Q)) (k0_pay59 z1 h1 (k0_pay56 Q) (constant S32x2048 .f32 0x00000000#32)) p
      = Scalar.addf p (share (sqOf (codes Q h0) z0) (sqOf (codes Q h1) z1)) := rfl

/-- The block of the output a grid point leaves: two halves. -/
def outBlk (x0 : Vec F S1x256x8192 .f32) (x1 : Vec F S1x1x8192 .f32) (x2 : Vec F S64x256 .f32) (x3 : Vec F S32x1 .f32)
    (x4 : Vec F S512x32 .f32) (x5 : Vec F S512x1 .f32) (x6 : Vec F S32x512 .f32) (x7 : Vec F S256x32 .f32)
    (x8 : Vec F S256x1 .f32) (x9 : Vec F S256x128 .bf16) (x10 : Vec F S256x512 .bf16) : Vec F S1x256x8192 .f32 :=
  View.canon [
    ⟨Rect.unit (s := S1x256x8192) ![0, 0, 4096] S1x256x4096.size inb_S1x256x8192_S1x256x4096_0_0_4096,
      outOf x10 x7 x8 (mHi x1) (chosen x9 (xHi x0) x2 x3 x4 x5 x6)⟩,
    ⟨Rect.unit (s := S1x256x8192) ![0, 0, 0] S1x256x4096.size inb_S1x256x8192_S1x256x4096_0_0_0,
      outOf x10 x7 x8 (mLo x1) (chosen x9 (xLo x0) x2 x3 x4 x5 x6)⟩]

/-- The sum of the squared differences of codes and latents of one half. -/
def sqHalf (X : Vec F S1x256x4096 .f32) (x2 : Vec F S64x256 .f32) (x3 : Vec F S32x1 .f32)
    (x4 : Vec F S512x32 .f32) (x5 : Vec F S512x1 .f32) (x6 : Vec F S32x512 .f32) (x9 : Vec F S256x128 .bf16) : F .f32 :=
  sqOf (chosen x9 X x2 x3 x4 x5 x6) (lat x9 X x2 x3)

/-- The share of the loss a grid point adds. -/
def lossShare (x0 : Vec F S1x256x8192 .f32) (x2 : Vec F S64x256 .f32) (x3 : Vec F S32x1 .f32)
    (x4 : Vec F S512x32 .f32) (x5 : Vec F S512x1 .f32) (x6 : Vec F S32x512 .f32) (x9 : Vec F S256x128 .bf16) : F .f32 :=
  share (sqHalf (xLo x0) x2 x3 x4 x5 x6 x9) (sqHalf (xHi x0) x2 x3 x4 x5 x6 x9)

theorem hz2 : (![0, 0] : Fin 2 → Nat) = fun _ => 0 := by decide

section Out

variable (c : Dev nD) (i : grid0.Coords)
  (arg2 : Memref sig .tc .vmem S1x256x8192 .f32) (harg2 : arg2.IsWhole)
  (arg3 : Memref sig .tc .vmem S1x1x8192 .f32) (harg3 : arg3.IsWhole)
  (arg4 : Memref sig .tc .vmem S64x256 .f32) (harg4 : arg4.IsWhole)
  (arg5 : Memref sig .tc .vmem S32x1 .f32) (harg5 : arg5.IsWhole)
  (arg6 : Memref sig .tc .vmem S512x32 .f32) (harg6 : arg6.IsWhole)
  (arg7 : Memref sig .tc .vmem S512x1 .f32) (harg7 : arg7.IsWhole)
  (arg8 : Memref sig .tc .vmem S32x512 .f32) (harg8 : arg8.IsWhole)
  (arg9 : Memref sig .tc .vmem S256x32 .f32) (harg9 : arg9.IsWhole)
  (arg10 : Memref sig .tc .vmem S256x1 .f32) (harg10 : arg10.IsWhole)
  (arg11 : Memref sig .tc .vmem S256x128 .bf16) (harg11 : arg11.IsWhole)
  (arg12 : Memref sig .tc .vmem S256x512 .bf16) (harg12 : arg12.IsWhole)
  (arg13 : Memref sig .tc .vmem S1x256x8192 .f32) (harg13 : arg13.IsWhole)
  (arg14 : Memref sig .tc .smem S1x1 .f32) (harg14 : arg14.IsWhole)
  (x0 : Vec F S1x256x8192 .f32) (x1 : Vec F S1x1x8192 .f32) (x2 : Vec F S64x256 .f32) (x3 : Vec F S32x1 .f32)
  (x4 : Vec F S512x32 .f32) (x5 : Vec F S512x1 .f32) (x6 : Vec F S32x512 .f32) (x7 : Vec F S256x32 .f32)
  (x8 : Vec F S256x1 .f32) (x9 : Vec F S256x128 .bf16) (x10 : Vec F S256x512 .bf16)

/-- The output block the first grid point leaves. -/
theorem out_A_11 (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = outBlk x0 x1 x2 x3 x4 x5 x6 x7 x8 x9 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S64x256) hz2, View.ld_unit_zero (S := S32x1) hz2, View.ld_unit_zero (S := S512x32) hz2,
    View.ld_unit_zero (S := S512x1) hz2, View.ld_unit_zero (S := S32x512) hz2, View.ld_unit_zero (S := S256x32) hz2,
    View.ld_unit_zero (S := S256x1) hz2, View.ld_unit_zero (S := S256x128) hz2, View.ld_unit_zero (S := S256x512) hz2,
    lat_lo, hot_lo, lat_hi, hot_hi, out_lo, out_hi]
  rfl

/-- The loss the first grid point leaves. -/
theorem out_A_12 (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10
      = fun _ => Scalar.addf (Scalar.ofBits .f32 0x00000000#32) (lossShare x0 x2 x3 x4 x5 x6 x9) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S64x256) hz2, View.ld_unit_zero (S := S32x1) hz2, View.ld_unit_zero (S := S512x32) hz2,
    View.ld_unit_zero (S := S512x1) hz2, View.ld_unit_zero (S := S32x512) hz2, View.ld_unit_zero (S := S256x32) hz2,
    View.ld_unit_zero (S := S256x1) hz2, View.ld_unit_zero (S := S256x128) hz2, View.ld_unit_zero (S := S256x512) hz2,
    lat_lo, hot_lo, lat_hi, hot_hi, out_lo, out_hi, loss_add]
  rw [View.canon_cons_unit_zero (S := S1x1) hz2]
  rfl

/-- The output block a later grid point leaves. -/
theorem out_B_11 (hc0 : ¬cond0_0 i) (xo12 : Vec F S1x1 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12
      = outBlk x0 x1 x2 x3 x4 x5 x6 x7 x8 x9 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S64x256) hz2, View.ld_unit_zero (S := S32x1) hz2, View.ld_unit_zero (S := S512x32) hz2,
    View.ld_unit_zero (S := S512x1) hz2, View.ld_unit_zero (S := S32x512) hz2, View.ld_unit_zero (S := S256x32) hz2,
    View.ld_unit_zero (S := S256x1) hz2, View.ld_unit_zero (S := S256x128) hz2, View.ld_unit_zero (S := S256x512) hz2,
    lat_lo, hot_lo, lat_hi, hot_hi, out_lo, out_hi]
  rfl

/-- The loss a later grid point leaves. -/
theorem out_B_12 (hc0 : ¬cond0_0 i) (xo12 : Vec F S1x1 .f32) :
    out0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12
      = fun _ => Scalar.addf (xo12 (ix2 (0 : Fin 1) (0 : Fin 1))) (lossShare x0 x2 x3 x4 x5 x6 x9) := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xo12)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread,
    View.ld_unit_zero (S := S64x256) hz2, View.ld_unit_zero (S := S32x1) hz2, View.ld_unit_zero (S := S512x32) hz2,
    View.ld_unit_zero (S := S512x1) hz2, View.ld_unit_zero (S := S32x512) hz2, View.ld_unit_zero (S := S256x32) hz2,
    View.ld_unit_zero (S := S256x1) hz2, View.ld_unit_zero (S := S256x128) hz2, View.ld_unit_zero (S := S256x512) hz2,
    lat_lo, hot_lo, lat_hi, hot_hi, out_lo, out_hi, loss_add, harg14.read_unread, View.ld_unit_zero (S := S1x1) hz2]
  rw [View.canon_cons_unit_zero (S := S1x1) hz2]
  funext y
  exact congrArg (fun e => Scalar.addf (xo12 e) _) (by decide)

end Out

end Cert.VQ
-- ==== Proof.K.Host.lean ====
/-
The arrays the host hands the kernel, as functions of the arguments.
-/
module

public import proofs.«01_k».proof.Proof.Gen.KernelIdeal.Frame

@[expose] public section

noncomputable section

namespace Cert.VQ

open Cert.KernelIdeal Cert.KernelIdeal.Gen Idealize.ShloMosaic Idealize.ShloMosaic.TcCoe Idealize.ShloMosaic.StableHlo

variable {F : FTy → Type} [FloatOps F]

/-- The two taps of the convolution's weights, one below the other. -/
def hW (w : Vec F S32x256x2 .f32) : Vec F S64x256 .f32 :=
  concatenate S64x256 0
    [⟨S32x256, shapeCast S32x256 (extractStridedSlice S32x256x1 ![0, 0, 0] w slices_S32x256x2_S32x256x1_0_0_0) shapeCasts_S32x256x1_S32x256⟩,
     ⟨S32x256, shapeCast S32x256 (extractStridedSlice S32x256x1 ![0, 0, 1] w slices_S32x256x2_S32x256x1_0_0_1) shapeCasts_S32x256x1_S32x256⟩]
    concatenates_S32x256_S32x256_S64x256_d0

/-- Minus twice the codebook. -/
def hA (cb : Vec F S512x32 .f32) : Vec F S512x32 .f32 :=
  mulf (broadcastInDim S512x32 ![] bcast_S_S512x32 (constant S_ .f32 0xC0000000#32)) cb

/-- The codes' squares. -/
def hC (cb : Vec F S512x32 .f32) : Vec F S512x1 .f32 :=
  broadcastInDim S512x1 ![0] bcast_S512_S512x1_0
    (Host.reduceAdd (mulf cb cb) (constant S_ .f32 0x00000000#32) reducesTo_S512x32_S512_d1 h_S_)

/-- The codebook transposed. -/
def hQ (cb : Vec F S512x32 .f32) : Vec F S32x512 .f32 := transpose S32x512 [1, 0] cb transposes_S512x32_S32x512_1_0

/-- The output convolution's weights as a matrix. -/
def hO (w : Vec F S256x32x1 .f32) : Vec F S256x32 .f32 := shapeCast S256x32 w shapeCasts_S256x32x1_S256x32

/-- The input convolution's bias as a column. -/
def hBi (b : Vec F S32 .f32) : Vec F S32x1 .f32 := broadcastInDim S32x1 ![0] bcast_S32_S32x1_0 b

/-- The output convolution's bias as a column. -/
def hBo (b : Vec F S256 .f32) : Vec F S256x1 .f32 := broadcastInDim S256x1 ![0] bcast_S256_S256x1_0 b

/-- The matrix that selects the even lanes: row `s`, column `j` is one where `s = 2 * j`. -/
def hE : Vec F S256x128 .bf16 :=
  uitofp .bf16 (cmpi .eq (iotaInDim S256x128 32 0)
    (muli (broadcastInDim S256x128 ![] bcast_S_S256x128 (constantI S_ 32 2#32)) (iotaInDim S256x128 32 1)))

/-- The column's number halved and rounded down, for every entry of a 256×512 array. -/
def halfLane : IVec S256x512 32 :=
  select (andi
      (cmpi .ne (signi (iotaInDim S256x512 32 1)) (broadcastInDim S256x512 ![] bcast_S_S256x512 (signi (constantI S_ 32 2#32))))
      (cmpi .ne (Host.remsi (iotaInDim S256x512 32 1) (broadcastInDim S256x512 ![] bcast_S_S256x512 (constantI S_ 32 2#32)))
        (broadcastInDim S256x512 ![] bcast_S_S256x512 (constantI S_ 32 0#32))))
    (subi (Host.divsi (iotaInDim S256x512 32 1) (broadcastInDim S256x512 ![] bcast_S_S256x512 (constantI S_ 32 2#32)))
      (broadcastInDim S256x512 ![] bcast_S_S256x512 (constantI S_ 32 1#32)))
    (Host.divsi (iotaInDim S256x512 32 1) (broadcastInDim S256x512 ![] bcast_S_S256x512 (constantI S_ 32 2#32)))

/-- The matrix that doubles the lanes: row `s`, column `j` is one where `s` is half of `j`. -/
def hD : Vec F S256x512 .bf16 := uitofp .bf16 (cmpi .eq (iotaInDim S256x512 32 0) halfLane)

variable (m : (ℓ : Loc nD τ sig) → Buf (Elt F) ℓ) (c : Dev nD)

theorem V_v4 : V m c main_v4 = hW (m ((c : Thread nD τ).loc main_arg2)) := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v12 : V m c main_v12 = hBi (m ((c : Thread nD τ).loc main_arg3)) := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v6 : V m c main_v6 = hA (m ((c : Thread nD τ).loc main_arg4)) := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v9 : V m c main_v9 = hC (m ((c : Thread nD τ).loc main_arg4)) := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v10 : V m c main_v10 = hQ (m ((c : Thread nD τ).loc main_arg4)) := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v11 : V m c main_v11 = hO (m ((c : Thread nD τ).loc main_arg5)) := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v13 : V m c main_v13 = hBo (m ((c : Thread nD τ).loc main_arg6)) := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v19 : V m c main_v19 = hE := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

theorem V_v24 : V m c main_v24 = hD := by
  simp only [V, List.flatten_cons, List.flatten_nil, List.append_nil]
  simp only [hostOps0, hostOps0_1, hostOps0_2, List.cons_append, List.nil_append]
  simp only [TRef.binary, TRef.nullary, TRef.quaternary, TRef.ternary, TRef.unary, TRef.toBuf, TRef.ofBuf, cast_eq]
  after_results_simp <;> rfl

end Cert.VQ
-- ==== Proof.K.Arr.lean ====
/-
The two arrays the kernel returns, as functions of the arguments: every grid point writes one batch's block of the output,
and the loss is the running sum of the grid points' shares.
-/
module

public import proofs.«01_k».proof.Proof.Gen.KernelIdeal.Value
public import proofs.«01_k».proof.Proof.K.Body
public import proofs.«01_k».proof.Proof.K.Host

@[expose] public section

noncomputable section

namespace Cert.VQ

open Cert.KernelIdeal Cert.KernelIdeal.Gen Cert.KernelIdeal.Value Idealize.ShloMosaic Idealize.ShloMosaic.TcCoe
open Idealize.ShloMosaic.ValueIdx Idealize.SL.Sem
open Idealize.ShloMosaic.Pipeline (Dat)

variable {F : FTy → Type} [FloatOps F]

section Values

variable (x : Vec F S16x256x8192 .f32) (mk : Vec F S16x1x8192 .f32) (w : Vec F S32x256x2 .f32) (bi : Vec F S32 .f32)
  (cb : Vec F S512x32 .f32) (wo : Vec F S256x32x1 .f32) (bo : Vec F S256 .f32)

/-- One batch of `x`. -/
def xBlk (b : Fin 16) : Vec F S1x256x8192 .f32 :=
  fun j => x (ix3 b (⟨(j 1).val, (j 1).isLt⟩ : Fin 256) (⟨(j 2).val, (j 2).isLt⟩ : Fin 8192))

/-- One batch of the mask. -/
def mBlk (b : Fin 16) : Vec F S1x1x8192 .f32 :=
  fun j => mk (ix3 b (⟨(j 1).val, (j 1).isLt⟩ : Fin 1) (⟨(j 2).val, (j 2).isLt⟩ : Fin 8192))

/-- One batch's block of the output. -/
def outB (b : Fin 16) : Vec F S1x256x8192 .f32 :=
  outBlk (xBlk x b) (mBlk mk b) (hW w) (hBi bi) (hA cb) (hC cb) (hQ cb) (hO wo) (hBo bo) hE hD

/-- The array whose batches are the given blocks. -/
def stack (G : Fin 16 → Vec F S1x256x8192 .f32) : Vec F S16x256x8192 .f32 :=
  fun i => G (⟨(i 0).val, (i 0).isLt⟩ : Fin 16)
    (ix3 (0 : Fin 1) (⟨(i 1).val, (i 1).isLt⟩ : Fin 256) (⟨(i 2).val, (i 2).isLt⟩ : Fin 8192))

/-- The output. -/
def outArr : Vec F S16x256x8192 .f32 := stack (outB x mk w bi cb wo bo)

/-- One batch's share of the loss. -/
def lossB (b : Fin 16) : F .f32 := lossShare (xBlk x b) (hW w) (hBi bi) (hA cb) (hC cb) (hQ cb) hE

/-- The running sum of the shares. -/
def lossSum : (n : ℕ) → n < 16 → F .f32
  | 0, h => Scalar.addf (Scalar.ofBits .f32 0x00000000#32) (lossB x w bi cb ⟨0, h⟩)
  | n + 1, h => Scalar.addf (lossSum n (Nat.lt_of_succ_lt h)) (lossB x w bi cb ⟨n + 1, h⟩)

/-- The loss. -/
def lossArr : Vec F S1x1 .f32 := fun _ => lossSum x w bi cb 15 (by decide)

end Values

variable (m : (ℓ : Loc nD τ sig) → Buf (Elt F) ℓ) (ρ : Dev nD → PrngReg) (c : Dev nD)

theorem N16 : cfg0.N = 16 := N_0

/-- Every window's block index, point by point. -/
theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx11 : ∀ t : Fin cfg0.N, win0_11.index t = ![t.val, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx12 : ∀ t : Fin cfg0.N, win0_12.index t = ![0, 0] := (by decide +kernel : ∀ t : Fin grid0.N, _)

/-! ## Each input window's block -/

theorem iblk_2 (t : Fin cfg0.N) : iblk m c 2 t = hW (m ((c : Thread nD τ).loc main_arg2)) := by
  refine Eq.trans ?_ (V_v4 m c)
  funext j
  show V m c main_v4 (((cfg0.win 2).blk t).view.emb j) = V m c main_v4 j
  refine congrArg (V m c main_v4) (funext fun a => Fin.ext ?_)
  have e := idx2 t
  match a with
  | ⟨0, _⟩ => show win0_2.index t 0 * 64 + 1 * (j 0).val = (j 0).val; rw [e]; show 0 * 64 + 1 * (j 0).val = _; omega
  | ⟨1, _⟩ => show win0_2.index t 1 * 256 + 1 * (j 1).val = (j 1).val; rw [e]; show 0 * 256 + 1 * (j 1).val = _; omega

theorem iblk_3 (t : Fin cfg0.N) : iblk m c 3 t = hBi (m ((c : Thread nD τ).loc main_arg3)) := by
  refine Eq.trans ?_ (V_v12 m c)
  funext j
  show V m c main_v12 (((cfg0.win 3).blk t).view.emb j) = V m c main_v12 j
  refine congrArg (V m c main_v12) (funext fun a => Fin.ext ?_)
  have e := idx3 t
  match a with
  | ⟨0, _⟩ => show win0_3.index t 0 * 32 + 1 * (j 0).val = (j 0).val; rw [e]; show 0 * 32 + 1 * (j 0).val = _; omega
  | ⟨1, _⟩ => show win0_3.index t 1 * 1 + 1 * (j 1).val = (j 1).val; rw [e]; show 0 * 1 + 1 * (j 1).val = _; omega

theorem iblk_4 (t : Fin cfg0.N) : iblk m c 4 t = hA (m ((c : Thread nD τ).loc main_arg4)) := by
  refine Eq.trans ?_ (V_v6 m c)
  funext j
  show V m c main_v6 (((cfg0.win 4).blk t).view.emb j) = V m c main_v6 j
  refine congrArg (V m c main_v6) (funext fun a => Fin.ext ?_)
  have e := idx4 t
  match a with
  | ⟨0, _⟩ => show win0_4.index t 0 * 512 + 1 * (j 0).val = (j 0).val; rw [e]; show 0 * 512 + 1 * (j 0).val = _; omega
  | ⟨1, _⟩ => show win0_4.index t 1 * 32 + 1 * (j 1).val = (j 1).val; rw [e]; show 0 * 32 + 1 * (j 1).val = _; omega

theorem iblk_5 (t : Fin cfg0.N) : iblk m c 5 t = hC (m ((c : Thread nD τ).loc main_arg4)) := by
  refine Eq.trans ?_ (V_v9 m c)
  funext j
  show V m c main_v9 (((cfg0.win 5).blk t).view.emb j) = V m c main_v9 j
  refine congrArg (V m c main_v9) (funext fun a => Fin.ext ?_)
  have e := idx5 t
  match a with
  | ⟨0, _⟩ => show win0_5.index t 0 * 512 + 1 * (j 0).val = (j 0).val; rw [e]; show 0 * 512 + 1 * (j 0).val = _; omega
  | ⟨1, _⟩ => show win0_5.index t 1 * 1 + 1 * (j 1).val = (j 1).val; rw [e]; show 0 * 1 + 1 * (j 1).val = _; omega

theorem iblk_6 (t : Fin cfg0.N) : iblk m c 6 t = hQ (m ((c : Thread nD τ).loc main_arg4)) := by
  refine Eq.trans ?_ (V_v10 m c)
  funext j
  show V m c main_v10 (((cfg0.win 6).blk t).view.emb j) = V m c main_v10 j
  refine congrArg (V m c main_v10) (funext fun a => Fin.ext ?_)
  have e := idx6 t
  match a with
  | ⟨0, _⟩ => show win0_6.index t 0 * 32 + 1 * (j 0).val = (j 0).val; rw [e]; show 0 * 32 + 1 * (j 0).val = _; omega
  | ⟨1, _⟩ => show win0_6.index t 1 * 512 + 1 * (j 1).val = (j 1).val; rw [e]; show 0 * 512 + 1 * (j 1).val = _; omega

theorem iblk_7 (t : Fin cfg0.N) : iblk m c 7 t = hO (m ((c : Thread nD τ).loc main_arg5)) := by
  refine Eq.trans ?_ (V_v11 m c)
  funext j
  show V m c main_v11 (((cfg0.win 7).blk t).view.emb j) = V m c main_v11 j
  refine congrArg (V m c main_v11) (funext fun a => Fin.ext ?_)
  have e := idx7 t
  match a with
  | ⟨0, _⟩ => show win0_7.index t 0 * 256 + 1 * (j 0).val = (j 0).val; rw [e]; show 0 * 256 + 1 * (j 0).val = _; omega
  | ⟨1, _⟩ => show win0_7.index t 1 * 32 + 1 * (j 1).val = (j 1).val; rw [e]; show 0 * 32 + 1 * (j 1).val = _; omega

theorem iblk_8 (t : Fin cfg0.N) : iblk m c 8 t = hBo (m ((c : Thread nD τ).loc main_arg6)) := by
  refine Eq.trans ?_ (V_v13 m c)
  funext j
  show V m c main_v13 (((cfg0.win 8).blk t).view.emb j) = V m c main_v13 j
  refine congrArg (V m c main_v13) (funext fun a => Fin.ext ?_)
  have e := idx8 t
  match a with
  | ⟨0, _⟩ => show win0_8.index t 0 * 256 + 1 * (j 0).val = (j 0).val; rw [e]; show 0 * 256 + 1 * (j 0).val = _; omega
  | ⟨1, _⟩ => show win0_8.index t 1 * 1 + 1 * (j 1).val = (j 1).val; rw [e]; show 0 * 1 + 1 * (j 1).val = _; omega

theorem iblk_9 (t : Fin cfg0.N) : iblk m c 9 t = hE := by
  refine Eq.trans ?_ (V_v19 m c)
  funext j
  show V m c main_v19 (((cfg0.win 9).blk t).view.emb j) = V m c main_v19 j
  refine congrArg (V m c main_v19) (funext fun a => Fin.ext ?_)
  have e := idx9 t
  match a with
  | ⟨0, _⟩ => show win0_9.index t 0 * 256 + 1 * (j 0).val = (j 0).val; rw [e]; show 0 * 256 + 1 * (j 0).val = _; omega
  | ⟨1, _⟩ => show win0_9.index t 1 * 128 + 1 * (j 1).val = (j 1).val; rw [e]; show 0 * 128 + 1 * (j 1).val = _; omega

theorem iblk_10 (t : Fin cfg0.N) : iblk m c 10 t = hD := by
  refine Eq.trans ?_ (V_v24 m c)
  funext j
  show V m c main_v24 (((cfg0.win 10).blk t).view.emb j) = V m c main_v24 j
  refine congrArg (V m c main_v24) (funext fun a => Fin.ext ?_)
  have e := idx10 t
  match a with
  | ⟨0, _⟩ => show win0_10.index t 0 * 256 + 1 * (j 0).val = (j 0).val; rw [e]; show 0 * 256 + 1 * (j 0).val = _; omega
  | ⟨1, _⟩ => show win0_10.index t 1 * 512 + 1 * (j 1).val = (j 1).val; rw [e]; show 0 * 512 + 1 * (j 1).val = _; omega

theorem iblk_0 (t : Fin cfg0.N) : iblk m c 0 t = xBlk (m ((c : Thread nD τ).loc main_arg0)) (t.cast N16) := by
  funext j
  refine Eq.trans ?_ (congrFun (V_main_arg0 m c) _)
  show V m c main_arg0 (((cfg0.win 0).blk t).view.emb j) = V m c main_arg0 _
  refine congrArg (V m c main_arg0) (funext fun a => Fin.ext ?_)
  have e := idx0 t
  match a with
  | ⟨0, _⟩ =>
    have h0 : (j 0).val < 1 := (j 0).isLt
    show win0_0.index t 0 * 1 + 1 * (j 0).val = t.val
    rw [e]; show t.val * 1 + 1 * (j 0).val = _; omega
  | ⟨1, _⟩ => show win0_0.index t 1 * 256 + 1 * (j 1).val = (j 1).val; rw [e]; show 0 * 256 + 1 * (j 1).val = _; omega
  | ⟨2, _⟩ => show win0_0.index t 2 * 8192 + 1 * (j 2).val = (j 2).val; rw [e]; show 0 * 8192 + 1 * (j 2).val = _; omega

theorem iblk_1 (t : Fin cfg0.N) : iblk m c 1 t = mBlk (m ((c : Thread nD τ).loc main_arg1)) (t.cast N16) := by
  funext j
  refine Eq.trans ?_ (congrFun (V_main_arg1 m c) _)
  show V m c main_arg1 (((cfg0.win 1).blk t).view.emb j) = V m c main_arg1 _
  refine congrArg (V m c main_arg1) (funext fun a => Fin.ext ?_)
  have e := idx1 t
  match a with
  | ⟨0, _⟩ =>
    have h0 : (j 0).val < 1 := (j 0).isLt
    show win0_1.index t 0 * 1 + 1 * (j 0).val = t.val
    rw [e]; show t.val * 1 + 1 * (j 0).val = _; omega
  | ⟨1, _⟩ => show win0_1.index t 1 * 1 + 1 * (j 1).val = (j 1).val; rw [e]; show 0 * 1 + 1 * (j 1).val = _; omega
  | ⟨2, _⟩ => show win0_1.index t 2 * 8192 + 1 * (j 2).val = (j 2).val; rw [e]; show 0 * 8192 + 1 * (j 2).val = _; omega

/-! ## What each point leaves -/

/-- Point `t` leaves batch `t`'s block of the output. -/
theorem outs_fst (t : Fin cfg0.N) : (outsAt0 m c t.val t.isLt).1
    = outB (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (t.cast N16) := by
  by_cases h0 : t.val % 16 = 0
  · rw [outsAt0_A m c t h0]
    dsimp only
    rw [out_A_11, iblk_0 m c t, iblk_1 m c t, iblk_2 m c t, iblk_3 m c t, iblk_4 m c t, iblk_5 m c t, iblk_6 m c t, iblk_7 m c t, iblk_8 m c t, iblk_9 m c t, iblk_10 m c t]
    rfl
  · rw [outsAt0_B m c t h0]
    dsimp only
    rw [out_B_11, iblk_0 m c t, iblk_1 m c t, iblk_2 m c t, iblk_3 m c t, iblk_4 m c t, iblk_5 m c t, iblk_6 m c t, iblk_7 m c t, iblk_8 m c t, iblk_9 m c t, iblk_10 m c t]
    rfl

/-- Point `n` leaves the running sum of the shares up to its own. -/
theorem outs_snd : ∀ (n : ℕ) (hn : n < cfg0.N), (outsAt0 m c n hn).2
    = fun _ => lossSum (m ((c : Thread nD τ).loc main_arg0)) (m ((c : Thread nD τ).loc main_arg2)) (m ((c : Thread nD τ).loc main_arg3)) (m ((c : Thread nD τ).loc main_arg4)) n (hn.trans_eq N16)
  | 0, hn => by
    rw [outsAt0_A m c ⟨0, hn⟩ rfl]
    dsimp only
    rw [out_A_12, iblk_0 m c, iblk_2 m c, iblk_3 m c, iblk_4 m c, iblk_5 m c, iblk_6 m c, iblk_9 m c]
    rfl
  | n + 1, hn => by
    have hN := N16
    have h0 : ¬(⟨n + 1, hn⟩ : Fin cfg0.N).val % 16 = 0 := by dsimp only; omega
    rw [outsAt0_B m c ⟨n + 1, hn⟩ h0]
    dsimp only
    rw [out_B_12, iblk_0 m c, iblk_2 m c, iblk_3 m c, iblk_4 m c, iblk_5 m c, iblk_6 m c, iblk_9 m c]
    have ih := outs_snd n (Nat.lt_of_succ_lt hn)
    funext y
    show Scalar.addf ((outsAt0 m c n _).2 _) _ = Scalar.addf (lossSum (m ((c : Thread nD τ).loc main_arg0)) (m ((c : Thread nD τ).loc main_arg2)) (m ((c : Thread nD τ).loc main_arg3)) (m ((c : Thread nD τ).loc main_arg4)) n _) _
    rw [ih]
    rfl

/-! ## The arrays -/

/-- Point `t`'s block of a stack of blocks is block `t`. -/
theorem cut_stack (G : Fin 16 → Vec F S1x256x8192 .f32) (t : Fin cfg0.N) :
    (cfg0.win 11).cut (grid0.coords t) (G (t.cast N16)) = ((cfg0.win 11).blk t).view.read (Elt F) (stack G) := by
  funext j
  have e := idx11 t
  show G (t.cast N16) j = stack G (((cfg0.win 11).blk t).view.emb j)
  have hj : (((cfg0.win 11).blk t).view.emb j : S16x256x8192.Idx)
      = ix3 (t.cast N16) (⟨(j 1).val, (j 1).isLt⟩ : Fin 256) (⟨(j 2).val, (j 2).isLt⟩ : Fin 8192) := by
    funext a; refine Fin.ext ?_
    match a with
    | ⟨0, _⟩ =>
      have h0 : (j 0).val < 1 := (j 0).isLt
      show win0_11.index t 0 * 1 + 1 * (j 0).val = t.val
      rw [e]; show t.val * 1 + 1 * (j 0).val = _; omega
    | ⟨1, _⟩ => show win0_11.index t 1 * 256 + 1 * (j 1).val = (j 1).val; rw [e]; show 0 * 256 + 1 * (j 1).val = _; omega
    | ⟨2, _⟩ => show win0_11.index t 2 * 8192 + 1 * (j 2).val = (j 2).val; rw [e]; show 0 * 8192 + 1 * (j 2).val = _; omega
  rw [hj]
  unfold stack
  refine congrArg (G (t.cast N16)) ?_
  funext a; refine Fin.ext ?_
  match a with
  | ⟨0, _⟩ => have h0 : (j 0).val < 1 := (j 0).isLt; show (j 0).val = 0; omega
  | ⟨1, _⟩ => rfl
  | ⟨2, _⟩ => rfl

/-- The output array is `outArr` of the arguments. -/
theorem final11 : (dats m 0 c).arrAt 11 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_cover 11 (outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => ?_) fun i => ?_
  · rw [flushed11, outs_fst]
    exact cut_stack _ t
  · have hi0 : (i 0).val < 16 := (i 0).isLt
    refine ⟨⟨(i 0).val, hi0.trans_eq N16.symm⟩, flush0_11 _, ?_⟩
    have e := idx11 ⟨(i 0).val, hi0.trans_eq N16.symm⟩
    have h := ((cfg0.win 11).blk ⟨(i 0).val, hi0.trans_eq N16.symm⟩).view.emb_mem_set
      (ix3 (0 : Fin 1) (⟨(i 1).val, (i 1).isLt⟩ : Fin 256) (⟨(i 2).val, (i 2).isLt⟩ : Fin 8192))
    refine (congrArg (· ∈ ((cfg0.win 11).blk ⟨(i 0).val, hi0.trans_eq N16.symm⟩).view.set) ?_).mp h
    funext a; refine Fin.ext ?_
    match a with
    | ⟨0, _⟩ => show win0_11.index _ 0 * 1 + 1 * 0 = (i 0).val; rw [e]; show (i 0).val * 1 + 1 * 0 = _; omega
    | ⟨1, _⟩ => show win0_11.index _ 1 * 256 + 1 * (i 1).val = (i 1).val; rw [e]; show 0 * 256 + 1 * (i 1).val = _; omega
    | ⟨2, _⟩ => show win0_11.index _ 2 * 8192 + 1 * (i 2).val = (i 2).val; rw [e]; show 0 * 8192 + 1 * (i 2).val = _; omega

/-- The loss array is `lossArr` of the arguments. -/
theorem final12 : (dats m 0 c).arrAt 12 cfg0.N = lossArr (m ((c : Thread nD τ).loc main_arg0)) (m ((c : Thread nD τ).loc main_arg2)) (m ((c : Thread nD τ).loc main_arg3)) (m ((c : Thread nD τ).loc main_arg4)) := by
  have hN := N16
  refine (dats m 0 c).arrAt_eq_of_cover 12 (lossArr (m ((c : Thread nD τ).loc main_arg0)) (m ((c : Thread nD τ).loc main_arg2)) (m ((c : Thread nD τ).loc main_arg3)) (m ((c : Thread nD τ).loc main_arg4))) (fun t hf => ?_) fun i => ?_
  · have h15 : t.val = 15 := by have := (flush0_12 t).mp hf; have := t.isLt; omega
    rw [flushed12, outs_snd]
    funext j
    show lossSum (m ((c : Thread nD τ).loc main_arg0)) (m ((c : Thread nD τ).loc main_arg2)) (m ((c : Thread nD τ).loc main_arg3)) (m ((c : Thread nD τ).loc main_arg4)) t.val _ = lossSum (m ((c : Thread nD τ).loc main_arg0)) (m ((c : Thread nD τ).loc main_arg2)) (m ((c : Thread nD τ).loc main_arg3)) (m ((c : Thread nD τ).loc main_arg4)) 15 _
    congr 1
  · refine ⟨t0_15, (flush0_12 _).mpr rfl, ?_⟩
    have e := idx12 t0_15
    have h := ((cfg0.win 12).blk t0_15).view.emb_mem_set i
    refine (congrArg (· ∈ ((cfg0.win 12).blk t0_15).view.set) ?_).mp h
    funext a; refine Fin.ext ?_
    match a with
    | ⟨0, _⟩ => show win0_12.index _ 0 * 1 + 1 * (i 0).val = (i 0).val; rw [e]; show 0 * 1 + 1 * (i 0).val = _; omega
    | ⟨1, _⟩ => show win0_12.index _ 1 * 1 + 1 * (i 1).val = (i 1).val; rw [e]; show 0 * 1 + 1 * (i 1).val = _; omega

/-- Every execution ends with the two results at those functions of the arguments, and the arguments unchanged. -/
theorem run : θ_run defs (onTc (τ := τ) (main (F := F))) ⟨m, fun _ => 0, ρ⟩ fun r => ∀ c : Dev nD,
      r.2.mem ((c : Thread nD τ).loc main_v25_0) = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v25_1) = lossArr (m ((c : Thread nD τ).loc main_arg0)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨(h c).1.trans (final11 m c), (h c).2.1.trans (final12 m c), (h c).2.2⟩)
    (run_blocks m ρ)

end Cert.VQ
-- ==== Proof.Ref.Run.lean ====
/- The reference's run. `ops` lists the 75 host operations of the reference's @main; `run` states that every weakly fair
   execution terminates with each result buffer at the composed term of the arguments (`res_main_v42`, `res_main_v43`) and the
   arguments unchanged. The argmin's fold over two operands is applied pointwise, so its operation's value is the function of the
   result index that reads the second component of the fold. -/
module

public import proofs.«01_k».proof.Proof.Gen.ReferenceIdeal
public import Idealize.ShloMosaic.Lib.StableHlo.Run

@[expose] public section

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 75 operations, in order (a called function's operations stand in its call's place, spelt `TRef.…`). -/
abbrev ops : List (HloOp τ sig (Elt F)) :=
  [ reshape main_arg0 main_v0 (rfl : (.f32 : EltTy) = .f32) shapeCasts_S16x256x8192_S16x256x4096x2,
    binary main_v0 main_arg2 main_v1 ((fun l r => Host.dotGeneral dot_S16x256x4096x2_S32x256x2_S16x4096x32_13_12_02_0_n_n none l r) : (⟨S16x256x4096x2, .f32⟩ : BufTy).Contents (Elt F) → (⟨S32x256x2, .f32⟩ : BufTy).Contents (Elt F) → (⟨S16x4096x32, .f32⟩ : BufTy).Contents (Elt F)),
    unary main_v1 main_v2 ((transpose S16x32x4096 [0, 2, 1] · transposes_S16x4096x32_S16x32x4096_0_2_1) : (⟨S16x4096x32, .f32⟩ : BufTy).Contents (Elt F) → (⟨S16x32x4096, .f32⟩ : BufTy).Contents (Elt F)),
    unary main_arg3 main_v3 (broadcastInDim S1x32x1 ![1] bcast_S32_S1x32x1_1 : (⟨S32, .f32⟩ : BufTy).Contents (Elt F) → (⟨S1x32x1, .f32⟩ : BufTy).Contents (Elt F)),
    unary main_v3 main_v4 (broadcastInDim S16x32x4096 ![0, 1, 2] bcast_S1x32x1_S16x32x4096_0_1_2 : (⟨S1x32x1, .f32⟩ : BufTy).Contents (Elt F) → (⟨S16x32x4096, .f32⟩ : BufTy).Contents (Elt F)),
    binary main_v2 main_v4 main_v5 (addf : (⟨S16x32x4096, .f32⟩ : BufTy).Contents (Elt F) → (⟨S16x32x4096, .f32⟩ : BufTy).Contents (Elt F) → (⟨S16x32x4096, .f32⟩ : BufTy).Contents (Elt F)),
    unary main_v5 main_v6 ((transpose S16x4096x32 [0, 2, 1] · transposes_S16x32x4096_S16x4096x32_0_2_1) : (⟨S16x32x4096, .f32⟩ : BufTy).Contents (Elt F) → (⟨S16x4096x32, .f32⟩ : BufTy).Contents (Elt F)),
    reshape main_v6 main_v7 (rfl : (.f32 : EltTy) = .f32) shapeCasts_S16x4096x32_S65536x32,
    binary main_v7 main_v7 main_v8 (mulf : (⟨S65536x32, .f32⟩ : BufTy).Contents (Elt F) → (⟨S65536x32, .f32⟩ : BufTy).Contents (Elt F) → (⟨S65536x32, .f32⟩ : BufTy).Contents (Elt F)),
    nullary main_cst (constant S_ .f32 0x00000000#32),
    binary main_v8 main_cst main_v9 ((fun x v => Host.reduceAdd x v reducesTo_S65536x32_S65536_d1 h_S_) : (⟨S65536x32, .f32⟩ : BufTy).Contents (Elt F) → (⟨S_, .f32⟩ : BufTy).Contents (Elt F) → (⟨S65536, .f32⟩ : BufTy).Contents (Elt F)),
    unary main_v9 main_v10 (broadcastInDim S65536x1 ![0] bcast_S65536_S65536x1_0 : (⟨S65536, .f32⟩ : BufTy).Contents (Elt F) → (⟨S65536x1, .f32⟩ : BufTy).Contents (Elt F)),
    unary main_arg4 main_v11 ((transpose S32x512 [1, 0] · transposes_S512x32_S32x512_1_0) : (⟨S512x32, .f32⟩ : BufTy).Contents (Elt F) → (⟨S32x512, .f32⟩ : BufTy).Contents (Elt F)),
    binary main_v7 main_v11 main_v12 ((fun l r => Host.dotGeneral dot_S65536x32_S32x512_S65536x512_1_0_0_1_n_n none l r) : (⟨S65536x32, .f32⟩ : BufTy).Contents (Elt F) → (⟨S32x512, .f32⟩ : BufTy).Contents (Elt F) → (⟨S65536x512, .f32⟩ : BufTy).Contents (Elt F)),
    nullary main_cst_0 (constant S_ .f32 0x40000000#32),
    unary main_cst_0 main_v13 (broadcastInDim S65536x512 ![] bcast_S_S65536x512 : (⟨S_, .f32⟩ : BufTy).Contents (Elt F) → (⟨S65536x512, .f32⟩ : BufTy).Contents (Elt F)),
    binary main_v13 main_v12 main_v14 (mulf : (⟨S65536x512, .f32⟩ : BufTy).Contents (Elt F) → (⟨S65536x512, .f32⟩ : BufTy).Contents (Elt F) → (⟨S65536x512, .f32⟩ : BufTy).Contents (Elt F)),
    unary main_v10 main_v15 (broadcastInDim S65536x512 ![0, 1] bcast_S65536x1_S65536x512_0_1 : (⟨S65536x1, .f32⟩ : BufTy).Contents (Elt F) → (⟨S65536x512, .f32⟩ : BufTy).Contents (Elt F)),
    binary main_v15 main_v14 main_v16 (subf : (⟨S65536x512, .f32⟩ : BufTy).Contents (Elt F) → (⟨S65536x512, .f32⟩ : BufTy).Contents (Elt F) → (⟨S65536x512, .f32⟩ : BufTy).Contents (Elt F)),
    binary main_arg4 main_arg4 main_v17 (mulf : (⟨S512x32, .f32⟩ : BufTy).Contents (Elt F) → (⟨S512x32, .f32⟩ : BufTy).Contents (Elt F) → (⟨S512x32, .f32⟩ : BufTy).Contents (Elt F)),
    nullary main_cst_1 (constant S_ .f32 0x00000000#32),
    binary main_v17 main_cst_1 main_v18 ((fun x v => Host.reduceAdd x v reducesTo_S512x32_S512_d1 h_S_) : (⟨S512x32, .f32⟩ : BufTy).Contents (Elt F) → (⟨S_, .f32⟩ : BufTy).Contents (Elt F) → (⟨S512, .f32⟩ : BufTy).Contents (Elt F)),
    unary main_v18 main_v19 (broadcastInDim S1x512 ![1] bcast_S512_S1x512_1 : (⟨S512, .f32⟩ : BufTy).Contents (Elt F) → (⟨S1x512, .f32⟩ : BufTy).Contents (Elt F)),
    unary main_v19 main_v20 (broadcastInDim S65536x512 ![0, 1] bcast_S1x512_S65536x512_0_1 : (⟨S1x512, .f32⟩ : BufTy).Contents (Elt F) → (⟨S65536x512, .f32⟩ : BufTy).Contents (Elt F)),
    binary main_v16 main_v20 main_v21 (addf : (⟨S65536x512, .f32⟩ : BufTy).Contents (Elt F) → (⟨S65536x512, .f32⟩ : BufTy).Contents (Elt F) → (⟨S65536x512, .f32⟩ : BufTy).Contents (Elt F)),
    TRef.nullary (TRef.of (T := ⟨S65536x512, .i32⟩) main_call0_v0) (iotaInDim S65536x512 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S65536x512, .f32⟩) main_v21) (TRef.of (T := ⟨S65536x512, .i32⟩) main_call0_v0) (TRef.of (T := ⟨S_, .f32⟩) main_call0_cst) (TRef.of (T := ⟨S_, .i32⟩) main_call0_c) (TRef.of (T := ⟨S65536, .f32⟩) main_call0_v1_0) (fun x y u v j => (Host.argReduce reducer_argmin_f32_i32 x y u v reducesTo_S65536x512_S65536_d1 h_S_ j).1),
    TRef.quaternary (TRef.of (T := ⟨S65536x512, .f32⟩) main_v21) (TRef.of (T := ⟨S65536x512, .i32⟩) main_call0_v0) (TRef.of (T := ⟨S_, .f32⟩) main_call0_cst) (TRef.of (T := ⟨S_, .i32⟩) main_call0_c) (TRef.of (T := ⟨S65536, .i32⟩) main_v22) (fun x y u v j => (Host.argReduce reducer_argmin_f32_i32 x y u v reducesTo_S65536x512_S65536_d1 h_S_ j).2),
    TRef.nullary (TRef.of (T := ⟨S_, .i32⟩) main_call1_c) (constantI S_ 32 0#32),
    TRef.unary (TRef.of (T := ⟨S_, .i32⟩) main_call1_c) (TRef.of (T := ⟨S65536, .i32⟩) main_call1_v0) (broadcastInDim S65536 ![] bcast_S_S65536),
    TRef.binary (TRef.of (T := ⟨S65536, .i32⟩) main_v22) (TRef.of (T := ⟨S65536, .i32⟩) main_call1_v0) (TRef.of (T := ⟨S65536, .i1⟩) main_call1_v1) (cmpi .slt),
    TRef.nullary (TRef.of (T := ⟨S_, .i32⟩) main_call1_c_0) (constantI S_ 32 512#32),
    TRef.unary (TRef.of (T := ⟨S_, .i32⟩) main_call1_c_0) (TRef.of (T := ⟨S65536, .i32⟩) main_call1_v2) (broadcastInDim S65536 ![] bcast_S_S65536),
    TRef.binary (TRef.of (T := ⟨S65536, .i32⟩) main_v22) (TRef.of (T := ⟨S65536, .i32⟩) main_call1_v2) (TRef.of (T := ⟨S65536, .i32⟩) main_call1_v3) addi,
    TRef.ternary (TRef.of (T := ⟨S65536, .i1⟩) main_call1_v1) (TRef.of (T := ⟨S65536, .i32⟩) main_call1_v3) (TRef.of (T := ⟨S65536, .i32⟩) main_v22) (TRef.of (T := ⟨S65536, .i32⟩) main_call1_v4) select,
    TRef.unary (TRef.of (T := ⟨S65536, .i32⟩) main_call1_v4) (TRef.of (T := ⟨S65536x1, .i32⟩) main_call1_v5) (broadcastInDim S65536x1 ![0] bcast_S65536_S65536x1_0),
    TRef.nullary (TRef.of (T := ⟨S1, .i32⟩) main_call1_c_1) (constantI S1 32 511#32),
    TRef.nullary (TRef.of (T := ⟨S_, .i32⟩) main_call1_c_2) (constantI S_ 32 0#32),
    TRef.unary (TRef.of (T := ⟨S_, .i32⟩) main_call1_c_2) (TRef.of (T := ⟨S65536x1, .i32⟩) main_call1_v6) (broadcastInDim S65536x1 ![] bcast_S_S65536x1),
    TRef.binary (TRef.of (T := ⟨S65536x1, .i32⟩) main_call1_v5) (TRef.of (T := ⟨S65536x1, .i32⟩) main_call1_v6) (TRef.of (T := ⟨S65536x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S65536x1, .i32⟩) main_call1_v9) (broadcastInDim S65536x1 ![0, 1] bcast_S1x1_S65536x1_0_1),
    TRef.binary (TRef.of (T := ⟨S65536x1, .i32⟩) main_call1_v5) (TRef.of (T := ⟨S65536x1, .i32⟩) main_call1_v9) (TRef.of (T := ⟨S65536x1, .i1⟩) main_call1_v10) (cmpi .sle),
    TRef.binary (TRef.of (T := ⟨S65536x1, .i1⟩) main_call1_v7) (TRef.of (T := ⟨S65536x1, .i1⟩) main_call1_v10) (TRef.of (T := ⟨S65536x1, .i1⟩) main_call1_v11) andi,
    TRef.nullary (TRef.of (T := ⟨S_, .i1⟩) main_call1_c_3) (constantI S_ 1 1#1),
    TRef.binary (TRef.of (T := ⟨S65536x1, .i1⟩) main_call1_v11) (TRef.of (T := ⟨S_, .i1⟩) main_call1_c_3) (TRef.of (T := ⟨S65536, .i1⟩) main_call1_v12) (fun x v => Host.reduce IntOp.andi x v reducesTo_S65536x1_S65536_d1 h_S_),
    TRef.binary (TRef.of (T := ⟨S512x32, .f32⟩) main_arg4) (TRef.of (T := ⟨S65536x1, .i32⟩) main_call1_v5) (TRef.of (T := ⟨S65536x32, .f32⟩) main_call1_v13) (fun x i => Host.gather gather_S512x32_S65536x1_S65536x32_1_0_n_n_0_1_132 x i),
    TRef.unary (TRef.of (T := ⟨S65536, .i1⟩) main_call1_v12) (TRef.of (T := ⟨S65536x32, .i1⟩) main_call1_v14) (broadcastInDim S65536x32 ![0] bcast_S65536_S65536x32_0),
    TRef.nullary (TRef.of (T := ⟨S_, .f32⟩) main_call1_cst) (constant S_ .f32 0x7FC00000#32),
    TRef.unary (TRef.of (T := ⟨S_, .f32⟩) main_call1_cst) (TRef.of (T := ⟨S65536x32, .f32⟩) main_call1_v15) (broadcastInDim S65536x32 ![] bcast_S_S65536x32),
    TRef.ternary (TRef.of (T := ⟨S65536x32, .i1⟩) main_call1_v14) (TRef.of (T := ⟨S65536x32, .f32⟩) main_call1_v13) (TRef.of (T := ⟨S65536x32, .f32⟩) main_call1_v15) (TRef.of (T := ⟨S65536x32, .f32⟩) main_v23) select,
    reshape main_v23 main_v24 (rfl : (.f32 : EltTy) = .f32) shapeCasts_S65536x32_S16x4096x32,
    binary main_v24 main_v6 main_v25 (subf : (⟨S16x4096x32, .f32⟩ : BufTy).Contents (Elt F) → (⟨S16x4096x32, .f32⟩ : BufTy).Contents (Elt F) → (⟨S16x4096x32, .f32⟩ : BufTy).Contents (Elt F)),
    binary main_v24 main_v6 main_v26 (subf : (⟨S16x4096x32, .f32⟩ : BufTy).Contents (Elt F) → (⟨S16x4096x32, .f32⟩ : BufTy).Contents (Elt F) → (⟨S16x4096x32, .f32⟩ : BufTy).Contents (Elt F)),
    binary main_v25 main_v26 main_v27 (mulf : (⟨S16x4096x32, .f32⟩ : BufTy).Contents (Elt F) → (⟨S16x4096x32, .f32⟩ : BufTy).Contents (Elt F) → (⟨S16x4096x32, .f32⟩ : BufTy).Contents (Elt F)),
    nullary main_cst_2 (constant S_ .f32 0x00000000#32),
    binary main_v27 main_cst_2 main_v28 ((fun x v => Host.reduceAdd x v reducesTo_S16x4096x32_S_d0_1_2 h_S_) : (⟨S16x4096x32, .f32⟩ : BufTy).Contents (Elt F) → (⟨S_, .f32⟩ : BufTy).Contents (Elt F) → (⟨S_, .f32⟩ : BufTy).Contents (Elt F)),
    nullary main_cst_3 (constant S_ .f32 0x4A000000#32),
    binary main_v28 main_cst_3 main_v29 (Host.divf : (⟨S_, .f32⟩ : BufTy).Contents (Elt F) → (⟨S_, .f32⟩ : BufTy).Contents (Elt F) → (⟨S_, .f32⟩ : BufTy).Contents (Elt F)),
    binary main_v24 main_v6 main_v30 (subf : (⟨S16x4096x32, .f32⟩ : BufTy).Contents (Elt F) → (⟨S16x4096x32, .f32⟩ : BufTy).Contents (Elt F) → (⟨S16x4096x32, .f32⟩ : BufTy).Contents (Elt F)),
    binary main_v6 main_v30 main_v31 (addf : (⟨S16x4096x32, .f32⟩ : BufTy).Contents (Elt F) → (⟨S16x4096x32, .f32⟩ : BufTy).Contents (Elt F) → (⟨S16x4096x32, .f32⟩ : BufTy).Contents (Elt F)),
    unary main_v31 main_v32 ((transpose S16x32x4096 [0, 2, 1] · transposes_S16x4096x32_S16x32x4096_0_2_1) : (⟨S16x4096x32, .f32⟩ : BufTy).Contents (Elt F) → (⟨S16x32x4096, .f32⟩ : BufTy).Contents (Elt F)),
    unary main_v32 main_v33 (broadcastInDim S16x32x4096x2 ![0, 1, 2] bcast_S16x32x4096_S16x32x4096x2_0_1_2 : (⟨S16x32x4096, .f32⟩ : BufTy).Contents (Elt F) → (⟨S16x32x4096x2, .f32⟩ : BufTy).Contents (Elt F)),
    reshape main_v33 main_v34 (rfl : (.f32 : EltTy) = .f32) shapeCasts_S16x32x4096x2_S16x32x8192,
    reshape main_arg5 main_v35 (rfl : (.f32 : EltTy) = .f32) shapeCasts_S256x32x1_S256x32,
    binary main_v34 main_v35 main_v36 ((fun l r => Host.dotGeneral dot_S16x32x8192_S256x32_S16x8192x256_1_1_02_0_n_n none l r) : (⟨S16x32x8192, .f32⟩ : BufTy).Contents (Elt F) → (⟨S256x32, .f32⟩ : BufTy).Contents (Elt F) → (⟨S16x8192x256, .f32⟩ : BufTy).Contents (Elt F)),
    unary main_v36 main_v37 ((transpose S16x256x8192 [0, 2, 1] · transposes_S16x8192x256_S16x256x8192_0_2_1) : (⟨S16x8192x256, .f32⟩ : BufTy).Contents (Elt F) → (⟨S16x256x8192, .f32⟩ : BufTy).Contents (Elt F)),
    unary main_arg6 main_v38 (broadcastInDim S1x256x1 ![1] bcast_S256_S1x256x1_1 : (⟨S256, .f32⟩ : BufTy).Contents (Elt F) → (⟨S1x256x1, .f32⟩ : BufTy).Contents (Elt F)),
    unary main_v38 main_v39 (broadcastInDim S16x256x8192 ![0, 1, 2] bcast_S1x256x1_S16x256x8192_0_1_2 : (⟨S1x256x1, .f32⟩ : BufTy).Contents (Elt F) → (⟨S16x256x8192, .f32⟩ : BufTy).Contents (Elt F)),
    binary main_v37 main_v39 main_v40 (addf : (⟨S16x256x8192, .f32⟩ : BufTy).Contents (Elt F) → (⟨S16x256x8192, .f32⟩ : BufTy).Contents (Elt F) → (⟨S16x256x8192, .f32⟩ : BufTy).Contents (Elt F)),
    unary main_arg1 main_v41 (broadcastInDim S16x256x8192 ![0, 1, 2] bcast_S16x1x8192_S16x256x8192_0_1_2 : (⟨S16x1x8192, .f32⟩ : BufTy).Contents (Elt F) → (⟨S16x256x8192, .f32⟩ : BufTy).Contents (Elt F)),
    binary main_v40 main_v41 main_v42 (mulf : (⟨S16x256x8192, .f32⟩ : BufTy).Contents (Elt F) → (⟨S16x256x8192, .f32⟩ : BufTy).Contents (Elt F) → (⟨S16x256x8192, .f32⟩ : BufTy).Contents (Elt F)),
    reshape main_v29 main_v43 (rfl : (.f32 : EltTy) = .f32) shapeCasts_S_S1x1 ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨reshape_bufs_sub .., binary_bufs_sub .., unary_bufs_sub .., unary_bufs_sub .., unary_bufs_sub .., binary_bufs_sub .., unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub .., binary_bufs_sub .., binary_bufs_sub .., nullary_bufs_sub .., binary_bufs_sub .., nullary_bufs_sub .., binary_bufs_sub .., binary_bufs_sub .., binary_bufs_sub .., unary_bufs_sub .., unary_bufs_sub .., reshape_bufs_sub .., reshape_bufs_sub .., binary_bufs_sub .., unary_bufs_sub .., unary_bufs_sub .., unary_bufs_sub .., binary_bufs_sub .., unary_bufs_sub .., binary_bufs_sub .., reshape_bufs_sub ..⟩

set_option maxRecDepth 8192 in
/-- `main_v43`'s composed term of the arguments (named: it is long). -/
def res_main_v43 (m : (ℓ : Loc nD τ sig) → Buf (Elt F) ℓ) (c : Dev nD) : Buf (Elt F) ((c.tc : Thread nD τ).loc main_v43) :=
  shapeCast _ (Host.divf (Host.reduceAdd (mulf (subf (shapeCast _ (select (broadcastInDim S65536x32 ![0] bcast_S65536_S65536x32_0 (Host.reduce IntOp.andi (andi (cmpi .sge (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)))) (broadcastInDim S65536x1 ![] bcast_S_S65536x1 (constantI S_ 32 0#32))) (cmpi .sle (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)))) (broadcastInDim S65536x1 ![0, 1] bcast_S1x1_S65536x1_0_1 (broadcastInDim S1x1 ![1] bcast_S1_S1x1_1 (constantI S1 32 511#32))))) (constantI S_ 1 1#1) reducesTo_S65536x1_S65536_d1 h_S_)) (Host.gather gather_S512x32_S65536x1_S65536x32_1_0_n_n_0_1_132 (m ((c.tc : Thread nD τ).loc main_arg4)) (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2))))) (broadcastInDim S65536x32 ![] bcast_S_S65536x32 (constant S_ .f32 0x7FC00000#32))) shapeCasts_S65536x32_S16x4096x32) (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1)) (subf (shapeCast _ (select (broadcastInDim S65536x32 ![0] bcast_S65536_S65536x32_0 (Host.reduce IntOp.andi (andi (cmpi .sge (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)))) (broadcastInDim S65536x1 ![] bcast_S_S65536x1 (constantI S_ 32 0#32))) (cmpi .sle (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)))) (broadcastInDim S65536x1 ![0, 1] bcast_S1x1_S65536x1_0_1 (broadcastInDim S1x1 ![1] bcast_S1_S1x1_1 (constantI S1 32 511#32))))) (constantI S_ 1 1#1) reducesTo_S65536x1_S65536_d1 h_S_)) (Host.gather gather_S512x32_S65536x1_S65536x32_1_0_n_n_0_1_132 (m ((c.tc : Thread nD τ).loc main_arg4)) (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2))))) (broadcastInDim S65536x32 ![] bcast_S_S65536x32 (constant S_ .f32 0x7FC00000#32))) shapeCasts_S65536x32_S16x4096x32) (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1))) (constant S_ .f32 0x00000000#32) reducesTo_S16x4096x32_S_d0_1_2 h_S_) (constant S_ .f32 0x4A000000#32)) shapeCasts_S_S1x1

/-- `res_main_v43` by its position among the values @main returns, 1 counting from 0: the name for hand proofs to cite, since
    a re-print renumbers `main_v43`. An abbreviation: it unfolds to the `res_main_v43` that `run` states. -/
abbrev res_out1 (m : (ℓ : Loc nD τ sig) → Buf (Elt F) ℓ) (c : Dev nD) : Buf (Elt F) ((c.tc : Thread nD τ).loc main_v43) := res_main_v43 m c

set_option maxRecDepth 8192 in
/-- `main_v42`'s composed term of the arguments (named: it is long). -/
def res_main_v42 (m : (ℓ : Loc nD τ sig) → Buf (Elt F) ℓ) (c : Dev nD) : Buf (Elt F) ((c.tc : Thread nD τ).loc main_v42) :=
  mulf (addf (transpose S16x256x8192 [0, 2, 1] (Host.dotGeneral dot_S16x32x8192_S256x32_S16x8192x256_1_1_02_0_n_n none (shapeCast _ (broadcastInDim S16x32x4096x2 ![0, 1, 2] bcast_S16x32x4096_S16x32x4096x2_0_1_2 (transpose S16x32x4096 [0, 2, 1] (addf (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) (subf (shapeCast _ (select (broadcastInDim S65536x32 ![0] bcast_S65536_S65536x32_0 (Host.reduce IntOp.andi (andi (cmpi .sge (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)))) (broadcastInDim S65536x1 ![] bcast_S_S65536x1 (constantI S_ 32 0#32))) (cmpi .sle (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)))) (broadcastInDim S65536x1 ![0, 1] bcast_S1x1_S65536x1_0_1 (broadcastInDim S1x1 ![1] bcast_S1_S1x1_1 (constantI S1 32 511#32))))) (constantI S_ 1 1#1) reducesTo_S65536x1_S65536_d1 h_S_)) (Host.gather gather_S512x32_S65536x1_S65536x32_1_0_n_n_0_1_132 (m ((c.tc : Thread nD τ).loc main_arg4)) (broadcastInDim S65536x1 ![0] bcast_S65536_S65536x1_0 (select (cmpi .slt ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 0#32))) (addi ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2)) (broadcastInDim S65536 ![] bcast_S_S65536 (constantI S_ 32 512#32))) ((fun j => (Host.argReduce reducer_argmin_f32_i32 (addf (subf (broadcastInDim S65536x512 ![0, 1] bcast_S65536x1_S65536x512_0_1 (broadcastInDim S65536x1 ![0] bcast_S65536_S65536x1_0 (Host.reduceAdd (mulf (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32)) (constant S_ .f32 0x00000000#32) reducesTo_S65536x32_S65536_d1 h_S_))) (mulf (broadcastInDim S65536x512 ![] bcast_S_S65536x512 (constant S_ .f32 0x40000000#32)) (Host.dotGeneral dot_S65536x32_S32x512_S65536x512_1_0_0_1_n_n none (shapeCast _ (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1) shapeCasts_S16x4096x32_S65536x32) (transpose S32x512 [1, 0] (m ((c.tc : Thread nD τ).loc main_arg4)) transposes_S512x32_S32x512_1_0)))) (broadcastInDim S65536x512 ![0, 1] bcast_S1x512_S65536x512_0_1 (broadcastInDim S1x512 ![1] bcast_S512_S1x512_1 (Host.reduceAdd (mulf (m ((c.tc : Thread nD τ).loc main_arg4)) (m ((c.tc : Thread nD τ).loc main_arg4))) (constant S_ .f32 0x00000000#32) reducesTo_S512x32_S512_d1 h_S_)))) (iotaInDim S65536x512 32 1) (constant S_ .f32 0x7F800000#32) (constantI S_ 32 0#32) reducesTo_S65536x512_S65536_d1 h_S_ j).2))))) (broadcastInDim S65536x32 ![] bcast_S_S65536x32 (constant S_ .f32 0x7FC00000#32))) shapeCasts_S65536x32_S16x4096x32) (transpose S16x4096x32 [0, 2, 1] (addf (transpose S16x32x4096 [0, 2, 1] (Host.dotGeneral dot_S16x256x4096x2_S32x256x2_S16x4096x32_13_12_02_0_n_n none (shapeCast _ (m ((c.tc : Thread nD τ).loc main_arg0)) shapeCasts_S16x256x8192_S16x256x4096x2) (m ((c.tc : Thread nD τ).loc main_arg2))) transposes_S16x4096x32_S16x32x4096_0_2_1) (broadcastInDim S16x32x4096 ![0, 1, 2] bcast_S1x32x1_S16x32x4096_0_1_2 (broadcastInDim S1x32x1 ![1] bcast_S32_S1x32x1_1 (m ((c.tc : Thread nD τ).loc main_arg3))))) transposes_S16x32x4096_S16x4096x32_0_2_1))) transposes_S16x4096x32_S16x32x4096_0_2_1)) shapeCasts_S16x32x4096x2_S16x32x8192) (shapeCast _ (m ((c.tc : Thread nD τ).loc main_arg5)) shapeCasts_S256x32x1_S256x32)) transposes_S16x8192x256_S16x256x8192_0_2_1) (broadcastInDim S16x256x8192 ![0, 1, 2] bcast_S1x256x1_S16x256x8192_0_1_2 (broadcastInDim S1x256x1 ![1] bcast_S256_S1x256x1_1 (m ((c.tc : Thread nD τ).loc main_arg6))))) (broadcastInDim S16x256x8192 ![0, 1, 2] bcast_S16x1x8192_S16x256x8192_0_1_2 (m ((c.tc : Thread nD τ).loc main_arg1)))

/-- `res_main_v42` by its position among the values @main returns, 0 counting from 0: the name for hand proofs to cite, since
    a re-print renumbers `main_v42`. An abbreviation: it unfolds to the `res_main_v42` that `run` states. -/
abbrev res_out0 (m : (ℓ : Loc nD τ sig) → Buf (Elt F) ℓ) (c : Dev nD) : Buf (Elt F) ((c.tc : Thread nD τ).loc main_v42) := res_main_v42 m c

set_option maxRecDepth 8192 in
set_option maxHeartbeats 30000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = res_main_v42 m c
      ∧ r.2.mem ((c.tc : Thread nD τ).loc main_v43) = res_main_v43 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v42).trans (by simp only [ops, TRef.binary, TRef.nullary, TRef.quaternary, TRef.ternary, TRef.unary, TRef.toBuf, TRef.ofBuf, cast_eq]; after_results_simp <;> rfl <;> (unfold res_main_v42; rfl)),
      (h c main_v43).trans (by simp only [ops, TRef.binary, TRef.nullary, TRef.quaternary, TRef.ternary, TRef.unary, TRef.toBuf, TRef.ofBuf, cast_eq]; after_results_simp <;> rfl <;> (unfold res_main_v43; rfl)),
      (h c main_arg0).trans (by simp only [ops, TRef.binary, TRef.nullary, TRef.quaternary, TRef.ternary, TRef.unary, TRef.toBuf, TRef.ofBuf, cast_eq]; after_results_simp <;> rfl),
      (h c main_arg1).trans (by simp only [ops, TRef.binary, TRef.nullary, TRef.quaternary, TRef.ternary, TRef.unary, TRef.toBuf, TRef.ofBuf, cast_eq]; after_results_simp <;> rfl),
      (h c main_arg2).trans (by simp only [ops, TRef.binary, TRef.nullary, TRef.quaternary, TRef.ternary, TRef.unary, TRef.toBuf, TRef.ofBuf, cast_eq]; after_results_simp <;> rfl),
      (h c main_arg3).trans (by simp only [ops, TRef.binary, TRef.nullary, TRef.quaternary, TRef.ternary, TRef.unary, TRef.toBuf, TRef.ofBuf, cast_eq]; after_results_simp <;> rfl),
      (h c main_arg4).trans (by simp only [ops, TRef.binary, TRef.nullary, TRef.quaternary, TRef.ternary, TRef.unary, TRef.toBuf, TRef.ofBuf, cast_eq]; after_results_simp <;> rfl),
      (h c main_arg5).trans (by simp only [ops, TRef.binary, TRef.nullary, TRef.quaternary, TRef.ternary, TRef.unary, TRef.toBuf, TRef.ofBuf, cast_eq]; after_results_simp <;> rfl),
      (h c main_arg6).trans (by simp only [ops, TRef.binary, TRef.nullary, TRef.quaternary, TRef.ternary, TRef.unary, TRef.toBuf, TRef.ofBuf, cast_eq]; after_results_simp <;> rfl)⟩)
    (run_seq scopedRefs_eq scopedSems_eq defs main (fun _ => ops) main_eq (fun _ => ops_sub) m ρ)

end Cert.RefRun

end
-- ==== Proof.Ref.Read.lean ====
/- The reference, one operation at a time. `val_<buffer>` is the value the operation writes as a function of the arguments it
   depends on; `val_<buffer>_apply` reads it at an index from the operands at an index, for the operations whose result element
   depends on given elements of the operands. The convolution's contraction over two axes, the argmin, the gather and the bounds
   mask's fold are read in modules of their own. -/
module

public import proofs.«01_k».proof.Proof.Ref.Run
public import Idealize.ShloMosaic.Lib.Pipeline.Value
public import Idealize.ShloMosaic.Lib.ValueIdx
public import Idealize.ShloMosaic.PureOps.Ideal.Laws

@[expose] public section

noncomputable section

namespace Cert.RefRead

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.reshape %arg0 : (tensor<16x256x8192xf32>) -> tensor<16x256x4096x2xf32>
def val_main_v0 (x0 : (⟨S16x256x8192, .f32⟩ : BufTy).Contents (Elt F)) : (⟨S16x256x4096x2, .f32⟩ : BufTy).Contents (Elt F) :=
  shapeCast _ (x0) shapeCasts_S16x256x8192_S16x256x4096x2
set_option backward.proofsInPublic true in
abbrev idx_main_v0 (i : S16x256x4096x2.Idx) : S16x256x8192.Idx := fun a => match a with
  | ⟨0, _⟩ => ⟨((((i 0).val * 256 + (i 1).val) * 4096 + (i 2).val) * 2 + (i 3).val) / 2097152, by have h0 : (i 0).val < 16 := (i 0).isLt; have h1 : (i 1).val < 256 := (i 1).isLt; have h2 : (i 2).val < 4096 := (i 2).isLt; have h3 : (i 3).val < 2 := (i 3).isLt; show ((((i 0).val * 256 + (i 1).val) * 4096 + (i 2).val) * 2 + (i 3).val) / 2097152 < 16; omega⟩
  | ⟨1, _⟩ => ⟨((((i 0).val * 256 + (i 1).val) * 4096 + (i 2).val) * 2 + (i 3).val) / 8192 % 256, by have h0 : (i 0).val < 16 := (i 0).isLt; have h1 : (i 1).val < 256 := (i 1).isLt; have h2 : (i 2).val < 4096 := (i 2).isLt; have h3 : (i 3).val < 2 := (i 3).isLt; show ((((i 0).val * 256 + (i 1).val) * 4096 + (i 2).val) * 2 + (i 3).val) / 8192 % 256 < 256; omega⟩
  | ⟨2, _⟩ => ⟨((((i 0).val * 256 + (i 1).val) * 4096 + (i 2).val) * 2 + (i 3).val) % 8192, by have h0 : (i 0).val < 16 := (i 0).isLt; have h1 : (i 1).val < 256 := (i 1).isLt; have h2 : (i 2).val < 4096 := (i 2).isLt; have h3 : (i 3).val < 2 := (i 3).isLt; show ((((i 0).val * 256 + (i 1).val) * 4096 + (i 2).val) * 2 + (i 3).val) % 8192 < 8192; omega⟩
theorem val_main_v0_apply (x0 : (⟨S16x256x8192, .f32⟩ : BufTy).Contents (Elt F)) (i : S16x256x4096x2.Idx) :
    val_main_v0 (F := F) x0 i = x0 (idx_main_v0 i) := by
  unfold val_main_v0
  exact shapeCast_apply x0 shapeCasts_S16x256x8192_S16x256x4096x2 i (idx_main_v0 i)
    (by rewrite [Shape.rowMajor_val_three, Shape.rowMajor_val_four]; have h0 : (i 0).val < 16 := (i 0).isLt; have h1 : (i 1).val < 256 := (i 1).isLt; have h2 : (i 2).val < 4096 := (i 2).isLt; have h3 : (i 3).val < 2 := (i 3).isLt; show (((((i 0).val * 256 + (i 1).val) * 4096 + (i 2).val) * 2 + (i 3).val) / 2097152 * 256 + ((((i 0).val * 256 + (i 1).val) * 4096 + (i 2).val) * 2 + (i 3).val) / 8192 % 256) * 8192 + ((((i 0).val * 256 + (i 1).val) * 4096 + (i 2).val) * 2 + (i 3).val) % 8192 = (((i 0).val * 256 + (i 1).val) * 4096 + (i 2).val) * 2 + (i 3).val; omega)

-- %1 = stablehlo.dot_general %0, %arg2, contracting_dims = [1, 3] x [1, 2], precision = [DEFAULT, DEFAULT] : (tensor<16x256x4096x2xf32>, tensor<32x256x2xf32>) -> tensor<16x4096x32xf32>
def val_main_v1 (x0 : (⟨S16x256x8192, .f32⟩ : BufTy).Contents (Elt F)) (x2 : (⟨S32x256x2, .f32⟩ : BufTy).Contents (Elt F)) : (⟨S16x4096x32, .f32⟩ : BufTy).Contents (Elt F) :=
  Host.dotGeneral dot_S16x256x4096x2_S32x256x2_S16x4096x32_13_12_02_0_n_n none (val_main_v0 (F := F) x0) (x2)

-- %2 = stablehlo.transpose %1, dims = [0, 2, 1] : (tensor<16x4096x32xf32>) -> tensor<16x32x4096xf32>
def val_main_v2 (x0 : (⟨S16x256x8192, .f32⟩ : BufTy).Contents (Elt F)) (x2 : (⟨S32x256x2, .f32⟩ : BufTy).Contents (Elt F)) : (⟨S16x32x4096, .f32⟩ : BufTy).Contents (Elt F) :=
  transpose S16x32x4096 [0, 2, 1] (val_main_v1 (F := F) x0 x2) transposes_S16x4096x32_S16x32x4096_0_2_1
abbrev idx_main_v2 (i : S16x32x4096.Idx) : S16x4096x32.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v2_apply (x0 : (⟨S16x256x8192, .f32⟩ : BufTy).Contents (Elt F)) (x2 : (⟨S32x256x2, .f32⟩ : BufTy).Contents (Elt F)) (i : S16x32x4096.Idx) :
    val_main_v2 (F := F) x0 x2 i = val_main_v1 (F := F) x0 x2 (idx_main_v2 i) := by
  unfold val_main_v2
  generalize val_main_v1 (F := F) x0 x2 = y
  exact transpose_apply [0, 2, 1] y transposes_S16x4096x32_S16x32x4096_0_2_1 i (idx_main_v2 i) (fun b => match b with
    | ⟨0, _⟩ => rfl
    | ⟨1, _⟩ => rfl
    | ⟨2, _⟩ => rfl)

-- %3 = stablehlo.broadcast_in_dim %arg3, dims = [1] : (tensor<32xf32>) -> tensor<1x32x1xf32>
def val_main_v3 (x3 : (⟨S32, .f32⟩ : BufTy).Contents (Elt F)) : (⟨S1x32x1, .f32⟩ : BufTy).Contents (Elt F) :=
  broadcastInDim S1x32x1 ![1] bcast_S32_S1x32x1_1 (x3)
abbrev idx_main_v3 (i : S1x32x1.Idx) : S32.Idx := fun a => match a with
  | ⟨0, _⟩ => ⟨(i 1).val, (i 1).isLt⟩
theorem val_main_v3_apply (x3 : (⟨S32, .f32⟩ : BufTy).Contents (Elt F)) (i : S1x32x1.Idx) :
    val_main_v3 (F := F) x3 i = x3 (idx_main_v3 i) := by
  unfold val_main_v3
  exact broadcastInDim_apply _ bcast_S32_S1x32x1_1 x3 i (idx_main_v3 i) (fun a => match a with
    | ⟨0, _⟩ => by show (i 1).val = if (32 : Nat) = 1 then 0 else (i 1).val; rw [if_neg (by decide)])

-- %4 = stablehlo.broadcast_in_dim %3, dims = [0, 1, 2] : (tensor<1x32x1xf32>) -> tensor<16x32x4096xf32>
def val_main_v4 (x3 : (⟨S32, .f32⟩ : BufTy).Contents (Elt F)) : (⟨S16x32x4096, .f32⟩ : BufTy).Contents (Elt F) :=
  broadcastInDim S16x32x4096 ![0, 1, 2] bcast_S1x32x1_S16x32x4096_0_1_2 (val_main_v3 (F := F) x3)
abbrev idx_main_v4 (i : S16x32x4096.Idx) : S1x32x1.Idx := fun a => match a with
  | ⟨0, _⟩ => ⟨0, Nat.one_pos⟩
  | ⟨1, _⟩ => ⟨(i 1).val, (i 1).isLt⟩
  | ⟨2, _⟩ => ⟨0, Nat.one_pos⟩
theorem val_main_v4_apply (x3 : (⟨S32, .f32⟩ : BufTy).Contents (Elt F)) (i : S16x32x4096.Idx) :
    val_main_v4 (F := F) x3 i = val_main_v3 (F := F) x3 (idx_main_v4 i) := by
  unfold val_main_v4
  generalize val_main_v3 (F := F) x3 = y
  exact broadcastInDim_apply _ bcast_S1x32x1_S16x32x4096_0_1_2 y i (idx_main_v4 i) (fun a => match a with
    | ⟨0, _⟩ => by show 0 = if (1 : Nat) = 1 then 0 else (i 0).val; rw [if_pos rfl]
    | ⟨1, _⟩ => by show (i 1).val = if (32 : Nat) = 1 then 0 else (i 1).val; rw [if_neg (by decide)]
    | ⟨2, _⟩ => by show 0 = if (1 : Nat) = 1 then 0 else (i 2).val; rw [if_pos rfl])

-- %5 = stablehlo.add %2, %4 : tensor<16x32x4096xf32>
def val_main_v5 (x0 : (⟨S16x256x8192, .f32⟩ : BufTy).Contents (Elt F)) (x2 : (⟨S32x256x2, .f32⟩ : BufTy).Contents (Elt F)) (x3 : (⟨S32, .f32⟩ : BufTy).Contents (Elt F)) : (⟨S16x32x4096, .f32⟩ : BufTy).Contents (Elt F) :=
  addf (val_main_v2 (F := F) x0 x2) (val_main_v4 (F := F) x3)
theorem val_main_v5_apply (x0 : (⟨S16x256x8192, .f32⟩ : BufTy).Contents (Elt F)) (x2 : (⟨S32x256x2, .f32⟩ : BufTy).Contents (Elt F)) (x3 : (⟨S32, .f32⟩ : BufTy).Contents (Elt F)) (i : S16x32x4096.Idx) :
    val_main_v5 (F := F) x0 x2 x3 i = FloatOps.addf (val_main_v2 (F := F) x0 x2 i) (val_main_v4 (F := F) x3 i) := rfl

-- %6 = stablehlo.transpose %5, dims = [0, 2, 1] : (tensor<16x32x4096xf32>) -> tensor<16x4096x32xf32>
def val_main_v6 (x0 : (⟨S16x256x8192, .f32⟩ : BufTy).Contents (Elt F)) (x2 : (⟨S32x256x2, .f32⟩ : BufTy).Contents (Elt F)) (x3 : (⟨S32, .f32⟩ : BufTy).Contents (Elt F)) : (⟨S16x4096x32, .f32⟩ : BufTy).Contents (Elt F) :=
  transpose S16x4096x32 [0, 2, 1] (val_main_v5 (F := F) x0 x2 x3) transposes_S16x32x4096_S16x4096x32_0_2_1
abbrev idx_main_v6 (i : S16x4096x32.Idx) : S16x32x4096.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v6_apply (x0 : (⟨S16x256x8192, .f32⟩ : BufTy).Contents (Elt F)) (x2 : (⟨S32x256x2, .f32⟩ : BufTy).Contents (Elt F)) (x3 : (⟨S32, .f32⟩ : BufTy).Contents (Elt F)) (i : S16x4096x32.Idx) :
    val_main_v6 (F := F) x0 x2 x3 i = val_main_v5 (F := F) x0 x2 x3 (idx_main_v6 i) := by
  unfold val_main_v6
  generalize val_main_v5 (F := F) x0 x2 x3 = y
  exact transpose_apply [0, 2, 1] y transposes_S16x32x4096_S16x4096x32_0_2_1 i (idx_main_v6 i) (fun b => match b with
    | ⟨0, _⟩ => rfl
    | ⟨1, _⟩ => rfl
    | ⟨2, _⟩ => rfl)

-- %7 = stablehlo.reshape %6 : (tensor<16x4096x32xf32>) -> tensor<65536x32xf32>
def val_main_v7 (x0 : (⟨S16x256x8192, .f32⟩ : BufTy).Contents (Elt F)) (x2 : (⟨S32x256x2, .f32⟩ : BufTy).Contents (Elt F)) (x3 : (⟨S32, .f32⟩ : BufTy).Contents (Elt F)) : (⟨S65536x32, .f32⟩ : BufTy).Contents (Elt F) :=
  shapeCast _ (val_main_v6 (F := F) x0 x2 x3) shapeCasts_S16x4096x32_S65536x32
set_option backward.proofsInPublic true in
abbrev idx_main_v7 (i : S65536x32.Idx) : S16x4096x32.Idx := fun a => match a with
  | ⟨0, _⟩ => ⟨((i 0).val * 32 + (i 1).val) / 131072, by have h0 : (i 0).val < 65536 := (i 0).isLt; have h1 : (i 1).val < 32 := (i 1).isLt; show ((i 0).val * 32 + (i 1).val) / 131072 < 16; omega⟩
  | ⟨1, _⟩ => ⟨((i 0).val * 32 + (i 1).val) / 32 % 4096, by have h0 : (i 0).val < 65536 := (i 0).isLt; have h1 : (i 1).val < 32 := (i 1).isLt; show ((i 0).val * 32 + (i 1).val) / 32 % 4096 < 4096; omega⟩
  | ⟨2, _⟩ => ⟨((i 0).val * 32 + (i 1).val) % 32, by have h0 : (i 0).val < 65536 := (i 0).isLt; have h1 : (i 1).val < 32 := (i 1).isLt; show ((i 0).val * 32 + (i 1).val) % 32 < 32; omega⟩
theorem val_main_v7_apply (x0 : (⟨S16x256x8192, .f32⟩ : BufTy).Contents (Elt F)) (x2 : (⟨S32x256x2, .f32⟩ : BufTy).Contents (Elt F)) (x3 : (⟨S32, .f32⟩ : BufTy).Contents (Elt F)) (i : S65536x32.Idx) :
    val_main_v7 (F := F) x0 x2 x3 i = val_main_v6 (F := F) x0 x2 x3 (idx_main_v7 i) := by
  unfold val_main_v7
  generalize val_main_v6 (F := F) x0 x2 x3 = y
  exact shapeCast_apply y shapeCasts_S16x4096x32_S65536x32 i (idx_main_v7 i)
    (by rewrite [Shape.rowMajor_val_three, Shape.rowMajor_val_two]; have h0 : (i 0).val < 65536 := (i 0).isLt; have h1 : (i 1).val < 32 := (i 1).isLt; show (((i 0).val * 32 + (i 1).val) / 131072 * 4096 + ((i 0).val * 32 + (i 1).val) / 32 % 4096) * 32 + ((i 0).val * 32 + (i 1).val) % 32 = (i 0).val * 32 + (i 1).val; omega)

-- %8 = stablehlo.multiply %7, %7 : tensor<65536x32xf32>
def val_main_v8 (x0 : (⟨S16x256x8192, .f32⟩ : BufTy).Contents (Elt F)) (x2 : (⟨S32x256x2, .f32⟩ : BufTy).Contents (Elt F)) (x3 : (⟨S32, .f32⟩ : BufTy).Contents (Elt F)) : (⟨S65536x32, .f32⟩ : BufTy).Contents (Elt F) :=
  mulf (val_main_v7 (F := F) x0 x2 x3) (val_main_v7 (F := F) x0 x2 x3)
theorem val_main_v8_apply (x0 : (⟨S16x256x8192, .f32⟩ : BufTy).Contents (Elt F)) (x2 : (⟨S32x256x2, .f32⟩ : BufTy).Contents (Elt F)) (x3 : (⟨S32, .f32⟩ : BufTy).Contents (Elt F)) (i : S65536x32.Idx) :
    val_main_v8 (F := F) x0 x2 x3 i = FloatOps.mulf (val_main_v7 (F := F) x0 x2 x3 i) (val_main_v7 (F := F) x0 x2 x3 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %9 = stablehlo.reduce(%8 init: %cst) applies stablehlo.add across dimensions = [1] : (tensor<65536x32xf32>, tensor<f32>) -> tensor<65536xf32> {
def val_main_v9 (x0 : (⟨S16x256x8192, .f32⟩ : BufTy).Contents (Elt F)) (x2 : (⟨S32x256x2, .f32⟩ : BufTy).Contents (Elt F)) (x3 : (⟨S32, .f32⟩ : BufTy).Contents (Elt F)) : (⟨S65536, .f32⟩ : BufTy).Contents (Elt F) :=
  Host.reduceAdd (val_main_v8 (F := F) x0 x2 x3) (val_main_cst (F := F)) reducesTo_S65536x32_S65536_d1 h_S_
abbrev idx_main_v9 (i : S65536.Idx) (k : Fin 32) : S65536x32.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v9_apply (x0 : (⟨S16x256x8192, .f32⟩ : BufTy).Contents (Elt Ideal)) (x2 : (⟨S32x256x2, .f32⟩ : BufTy).Contents (Elt Ideal)) (x3 : (⟨S32, .f32⟩ : BufTy).Contents (Elt Ideal)) (i : S65536.Idx) :
    val_main_v9 (F := Ideal) x0 x2 x3 i = (val_main_cst (F := Ideal)) (Shape.Idx.first h_S_) + ∑ k : Fin 32, (val_main_v8 (F := Ideal) x0 x2 x3) (idx_main_v9 i k) := by
  unfold val_main_v9
  generalize val_main_v8 (F := Ideal) x0 x2 x3 = y0
  simp only [Host.reduceAdd, Ideal.hostReduceAdd_def]
  rw [Ideal.hostReduceAdd_single reducesTo_S65536x32_S65536_d1 (by decide)]
  refine congrArg (_ + ·) (Finset.sum_congr rfl fun k _ => ?_)
  exact congrArg y0 (funext fun a => Fin.ext (by match a with | ⟨0, _⟩ => rfl | ⟨1, _⟩ => rfl))

-- %10 = stablehlo.broadcast_in_dim %9, dims = [0] : (tensor<65536xf32>) -> tensor<65536x1xf32>
def val_main_v10 (x0 : (⟨S16x256x8192, .f32⟩ : BufTy).Contents (Elt F)) (x2 : (⟨S32x256x2, .f32⟩ : BufTy).Contents (Elt F)) (x3 : (⟨S32, .f32⟩ : BufTy).Contents (Elt F)) : (⟨S65536x1, .f32⟩ : BufTy).Contents (Elt F) :=
  broadcastInDim S65536x1 ![0] bcast_S65536_S65536x1_0 (val_main_v9 (F := F) x0 x2 x3)
abbrev idx_main_v10 (i : S65536x1.Idx) : S65536.Idx := fun a => match a with
  | ⟨0, _⟩ => ⟨(i 0).val, (i 0).isLt⟩
theorem val_main_v10_apply (x0 : (⟨S16x256x8192, .f32⟩ : BufTy).Contents (Elt F)) (x2 : (⟨S32x256x2, .f32⟩ : BufTy).Contents (Elt F)) (x3 : (⟨S32, .f32⟩ : BufTy).Contents (Elt F)) (i : S65536x1.Idx) :
    val_main_v10 (F := F) x0 x2 x3 i = val_main_v9 (F := F) x0 x2 x3 (idx_main_v10 i) := by
  unfold val_main_v10
  generalize val_main_v9 (F := F) x0 x2 x3 = y
  exact broadcastInDim_apply _ bcast_S65536_S65536x1_0 y i (idx_main_v10 i) (fun a => match a with
    | ⟨0, _⟩ => by show (i 0).val = if (65536 : Nat) = 1 then 0 else (i 0).val; rw [if_neg (by decide)])

-- %11 = stablehlo.transpose %arg4, dims = [1, 0] : (tensor<512x32xf32>) -> tensor<32x512xf32>
def val_main_v11 (x4 : (⟨S512x32, .f32⟩ : BufTy).Contents (Elt F)) : (⟨S32x512, .f32⟩ : BufTy).Contents (Elt F) :=
  transpose S32x512 [1, 0] (x4) transposes_S512x32_S32x512_1_0
abbrev idx_main_v11 (i : S32x512.Idx) : S512x32.Idx := fun a => match a with
  | ⟨0, _⟩ => ⟨(i 1).val, (i 1).isLt⟩
  | ⟨1, _⟩ => ⟨(i 0).val, (i 0).isLt⟩
theorem val_main_v11_apply (x4 : (⟨S512x32, .f32⟩ : BufTy).Contents (Elt F)) (i : S32x512.Idx) :
    val_main_v11 (F := F) x4 i = x4 (idx_main_v11 i) := by
  unfold val_main_v11
  exact transpose_apply [1, 0] x4 transposes_S512x32_S32x512_1_0 i (idx_main_v11 i) (fun b => match b with
    | ⟨0, _⟩ => rfl
    | ⟨1, _⟩ => rfl)

-- %12 = stablehlo.dot_general %7, %11, contracting_dims = [1] x [0], precision = [DEFAULT, DEFAULT] : (tensor<65536x32xf32>, tensor<32x512xf32>) -> tensor<65536x512xf32>
def val_main_v12 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x512, .f32⟩ : BufTy).Contents (Elt F) :=
  Host.dotGeneral dot_S65536x32_S32x512_S65536x512_1_0_0_1_n_n none (val_main_v7 (F := F) x0 x2 x3) (val_main_v11 (F := F) x4)
theorem lhs_main_v12_0 (i : S65536x512.Idx) (q : dot_S65536x32_S32x512_S65536x512_1_0_0_1_n_n.contr.Idx) :
    (dot_S65536x32_S32x512_S65536x512_1_0_0_1_n_n.lhsIdx i q 0).val = (i 0).val := by
  unfold DotDims.lhsIdx
  rw [dif_neg (show ¬(0 : Fin S65536x32.rank) ∈ dot_S65536x32_S32x512_S65536x512_1_0_0_1_n_n.lhsBatch by decide), dif_pos (show (0 : Fin S65536x32.rank) ∈ dot_S65536x32_S32x512_S65536x512_1_0_0_1_n_n.lhsNonContracting by decide)]
  rfl
theorem lhs_main_v12_1 (i : S65536x512.Idx) (q : dot_S65536x32_S32x512_S65536x512_1_0_0_1_n_n.contr.Idx) :
    (dot_S65536x32_S32x512_S65536x512_1_0_0_1_n_n.lhsIdx i q 1).val = (q ⟨0, by decide⟩).val :=
  dot_S65536x32_S32x512_S65536x512_1_0_0_1_n_n.lhsIdx_val_of_single rfl i q
theorem rhs_main_v12_0 (i : S65536x512.Idx) (q : dot_S65536x32_S32x512_S65536x512_1_0_0_1_n_n.contr.Idx) :
    (dot_S65536x32_S32x512_S65536x512_1_0_0_1_n_n.rhsIdx i q 0).val = (q ⟨0, by decide⟩).val :=
  dot_S65536x32_S32x512_S65536x512_1_0_0_1_n_n.rhsIdx_val_of_single rfl i q
theorem rhs_main_v12_1 (i : S65536x512.Idx) (q : dot_S65536x32_S32x512_S65536x512_1_0_0_1_n_n.contr.Idx) :
    (dot_S65536x32_S32x512_S65536x512_1_0_0_1_n_n.rhsIdx i q 1).val = (i 1).val := by
  unfold DotDims.rhsIdx
  rw [dif_neg (show ¬(1 : Fin S32x512.rank) ∈ dot_S65536x32_S32x512_S65536x512_1_0_0_1_n_n.rhsBatch by decide), dif_pos (show (1 : Fin S32x512.rank) ∈ dot_S65536x32_S32x512_S65536x512_1_0_0_1_n_n.rhsNonContracting by decide)]
  rfl
abbrev lidx_main_v12 (i : S65536x512.Idx) (k : Fin 32) : S65536x32.Idx := fun a => match a with
  | ⟨0, _⟩ => ⟨(i 0).val, (i 0).isLt⟩
  | ⟨1, _⟩ => ⟨k.val, k.isLt⟩
abbrev ridx_main_v12 (i : S65536x512.Idx) (k : Fin 32) : S32x512.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v12_apply (x0 : (⟨S16x256x8192, .f32⟩ : BufTy).Contents (Elt Ideal)) (x2 : (⟨S32x256x2, .f32⟩ : BufTy).Contents (Elt Ideal)) (x3 : (⟨S32, .f32⟩ : BufTy).Contents (Elt Ideal)) (x4 : (⟨S512x32, .f32⟩ : BufTy).Contents (Elt Ideal)) (i : S65536x512.Idx) :
    val_main_v12 (F := Ideal) x0 x2 x3 x4 i = ∑ k : Fin 32, (val_main_v7 (F := Ideal) x0 x2 x3) (lidx_main_v12 i k) * (val_main_v11 (F := Ideal) x4) (ridx_main_v12 i k) := by
  unfold val_main_v12
  generalize val_main_v7 (F := Ideal) x0 x2 x3 = y0
  generalize val_main_v11 (F := Ideal) x4 = y1
  simp only [Host.dotGeneral]
  rw [Ideal.dotGeneral_apply, ← Equiv.sum_comp (ValueIdx.contrEquiv1 dot_S65536x32_S32x512_S65536x512_1_0_0_1_n_n 32 rfl rfl).symm]
  refine Finset.sum_congr rfl fun k _ => ?_
  have hk := ValueIdx.contrEquiv1_symm_val dot_S65536x32_S32x512_S65536x512_1_0_0_1_n_n 32 rfl rfl k
  have el : dot_S65536x32_S32x512_S65536x512_1_0_0_1_n_n.lhsIdx i ((ValueIdx.contrEquiv1 dot_S65536x32_S32x512_S65536x512_1_0_0_1_n_n 32 rfl rfl).symm k) = lidx_main_v12 i k := funext fun a => Fin.ext (by
    match a with
    | ⟨0, _⟩ => exact lhs_main_v12_0 _ _
    | ⟨1, _⟩ => exact (lhs_main_v12_1 _ _).trans hk)
  have er : dot_S65536x32_S32x512_S65536x512_1_0_0_1_n_n.rhsIdx i ((ValueIdx.contrEquiv1 dot_S65536x32_S32x512_S65536x512_1_0_0_1_n_n 32 rfl rfl).symm k) = ridx_main_v12 i k := funext fun a => Fin.ext (by
    match a with
    | ⟨0, _⟩ => exact (rhs_main_v12_0 _ _).trans hk
    | ⟨1, _⟩ => exact rhs_main_v12_1 _ _)
  rw [el, er]

-- %cst_0 = stablehlo.constant dense<2.000000e+00> : tensor<f32>
def val_main_cst_0 : (⟨S_, .f32⟩ : BufTy).Contents (Elt F) :=
  constant S_ .f32 0x40000000#32
theorem val_main_cst_0_apply (i : S_.Idx) :
    val_main_cst_0 (F := F) i = FloatOps.ofBits .f32 0x40000000#32 := rfl

-- %13 = stablehlo.broadcast_in_dim %cst_0, dims = [] : (tensor<f32>) -> tensor<65536x512xf32>
def val_main_v13 : (⟨S65536x512, .f32⟩ : BufTy).Contents (Elt F) :=
  broadcastInDim S65536x512 ![] bcast_S_S65536x512 (val_main_cst_0 (F := F))
abbrev idx_main_v13 (i : S65536x512.Idx) : S_.Idx := fun a => a.elim0
theorem val_main_v13_apply (i : S65536x512.Idx) :
    val_main_v13 (F := F) i = val_main_cst_0 (F := F) (idx_main_v13 i) := by
  unfold val_main_v13
  generalize val_main_cst_0 (F := F) = y
  exact broadcastInDim_apply _ bcast_S_S65536x512 y i (idx_main_v13 i) (fun a => a.elim0)

-- %14 = stablehlo.multiply %13, %12 : tensor<65536x512xf32>
def val_main_v14 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x512, .f32⟩ : BufTy).Contents (Elt F) :=
  mulf (val_main_v13 (F := F)) (val_main_v12 (F := F) x0 x2 x3 x4)
theorem val_main_v14_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x512.Idx) :
    val_main_v14 (F := F) x0 x2 x3 x4 i = FloatOps.mulf (val_main_v13 (F := F) i) (val_main_v12 (F := F) x0 x2 x3 x4 i) := rfl

-- %15 = stablehlo.broadcast_in_dim %10, dims = [0, 1] : (tensor<65536x1xf32>) -> tensor<65536x512xf32>
def val_main_v15 (x0 : (⟨S16x256x8192, .f32⟩ : BufTy).Contents (Elt F)) (x2 : (⟨S32x256x2, .f32⟩ : BufTy).Contents (Elt F)) (x3 : (⟨S32, .f32⟩ : BufTy).Contents (Elt F)) : (⟨S65536x512, .f32⟩ : BufTy).Contents (Elt F) :=
  broadcastInDim S65536x512 ![0, 1] bcast_S65536x1_S65536x512_0_1 (val_main_v10 (F := F) x0 x2 x3)
abbrev idx_main_v15 (i : S65536x512.Idx) : S65536x1.Idx := fun a => match a with
  | ⟨0, _⟩ => ⟨(i 0).val, (i 0).isLt⟩
  | ⟨1, _⟩ => ⟨0, Nat.one_pos⟩
theorem val_main_v15_apply (x0 : (⟨S16x256x8192, .f32⟩ : BufTy).Contents (Elt F)) (x2 : (⟨S32x256x2, .f32⟩ : BufTy).Contents (Elt F)) (x3 : (⟨S32, .f32⟩ : BufTy).Contents (Elt F)) (i : S65536x512.Idx) :
    val_main_v15 (F := F) x0 x2 x3 i = val_main_v10 (F := F) x0 x2 x3 (idx_main_v15 i) := by
  unfold val_main_v15
  generalize val_main_v10 (F := F) x0 x2 x3 = y
  exact broadcastInDim_apply _ bcast_S65536x1_S65536x512_0_1 y i (idx_main_v15 i) (fun a => match a with
    | ⟨0, _⟩ => by show (i 0).val = if (65536 : Nat) = 1 then 0 else (i 0).val; rw [if_neg (by decide)]
    | ⟨1, _⟩ => by show 0 = if (1 : Nat) = 1 then 0 else (i 1).val; rw [if_pos rfl])

-- %16 = stablehlo.subtract %15, %14 : tensor<65536x512xf32>
def val_main_v16 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x512, .f32⟩ : BufTy).Contents (Elt F) :=
  subf (val_main_v15 (F := F) x0 x2 x3) (val_main_v14 (F := F) x0 x2 x3 x4)
theorem val_main_v16_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x512.Idx) :
    val_main_v16 (F := F) x0 x2 x3 x4 i = FloatOps.subf (val_main_v15 (F := F) x0 x2 x3 i) (val_main_v14 (F := F) x0 x2 x3 x4 i) := rfl

-- %17 = stablehlo.multiply %arg4, %arg4 : tensor<512x32xf32>
def val_main_v17 (x4 : (⟨S512x32, .f32⟩ : BufTy).Contents (Elt F)) : (⟨S512x32, .f32⟩ : BufTy).Contents (Elt F) :=
  mulf (x4) (x4)
theorem val_main_v17_apply (x4 : (⟨S512x32, .f32⟩ : BufTy).Contents (Elt F)) (i : S512x32.Idx) :
    val_main_v17 (F := F) x4 i = FloatOps.mulf (x4 i) (x4 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %18 = stablehlo.reduce(%17 init: %cst_1) applies stablehlo.add across dimensions = [1] : (tensor<512x32xf32>, tensor<f32>) -> tensor<512xf32> {
def val_main_v18 (x4 : (⟨S512x32, .f32⟩ : BufTy).Contents (Elt F)) : (⟨S512, .f32⟩ : BufTy).Contents (Elt F) :=
  Host.reduceAdd (val_main_v17 (F := F) x4) (val_main_cst_1 (F := F)) reducesTo_S512x32_S512_d1 h_S_
abbrev idx_main_v18 (i : S512.Idx) (k : Fin 32) : S512x32.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v18_apply (x4 : (⟨S512x32, .f32⟩ : BufTy).Contents (Elt Ideal)) (i : S512.Idx) :
    val_main_v18 (F := Ideal) x4 i = (val_main_cst_1 (F := Ideal)) (Shape.Idx.first h_S_) + ∑ k : Fin 32, (val_main_v17 (F := Ideal) x4) (idx_main_v18 i k) := by
  unfold val_main_v18
  generalize val_main_v17 (F := Ideal) x4 = y0
  simp only [Host.reduceAdd, Ideal.hostReduceAdd_def]
  rw [Ideal.hostReduceAdd_single reducesTo_S512x32_S512_d1 (by decide)]
  refine congrArg (_ + ·) (Finset.sum_congr rfl fun k _ => ?_)
  exact congrArg y0 (funext fun a => Fin.ext (by match a with | ⟨0, _⟩ => rfl | ⟨1, _⟩ => rfl))

-- %19 = stablehlo.broadcast_in_dim %18, dims = [1] : (tensor<512xf32>) -> tensor<1x512xf32>
def val_main_v19 (x4 : (⟨S512x32, .f32⟩ : BufTy).Contents (Elt F)) : (⟨S1x512, .f32⟩ : BufTy).Contents (Elt F) :=
  broadcastInDim S1x512 ![1] bcast_S512_S1x512_1 (val_main_v18 (F := F) x4)
abbrev idx_main_v19 (i : S1x512.Idx) : S512.Idx := fun a => match a with
  | ⟨0, _⟩ => ⟨(i 1).val, (i 1).isLt⟩
theorem val_main_v19_apply (x4 : (⟨S512x32, .f32⟩ : BufTy).Contents (Elt F)) (i : S1x512.Idx) :
    val_main_v19 (F := F) x4 i = val_main_v18 (F := F) x4 (idx_main_v19 i) := by
  unfold val_main_v19
  generalize val_main_v18 (F := F) x4 = y
  exact broadcastInDim_apply _ bcast_S512_S1x512_1 y i (idx_main_v19 i) (fun a => match a with
    | ⟨0, _⟩ => by show (i 1).val = if (512 : Nat) = 1 then 0 else (i 1).val; rw [if_neg (by decide)])

-- %20 = stablehlo.broadcast_in_dim %19, dims = [0, 1] : (tensor<1x512xf32>) -> tensor<65536x512xf32>
def val_main_v20 (x4 : (⟨S512x32, .f32⟩ : BufTy).Contents (Elt F)) : (⟨S65536x512, .f32⟩ : BufTy).Contents (Elt F) :=
  broadcastInDim S65536x512 ![0, 1] bcast_S1x512_S65536x512_0_1 (val_main_v19 (F := F) x4)
abbrev idx_main_v20 (i : S65536x512.Idx) : S1x512.Idx := fun a => match a with
  | ⟨0, _⟩ => ⟨0, Nat.one_pos⟩
  | ⟨1, _⟩ => ⟨(i 1).val, (i 1).isLt⟩
theorem val_main_v20_apply (x4 : (⟨S512x32, .f32⟩ : BufTy).Contents (Elt F)) (i : S65536x512.Idx) :
    val_main_v20 (F := F) x4 i = val_main_v19 (F := F) x4 (idx_main_v20 i) := by
  unfold val_main_v20
  generalize val_main_v19 (F := F) x4 = y
  exact broadcastInDim_apply _ bcast_S1x512_S65536x512_0_1 y i (idx_main_v20 i) (fun a => match a with
    | ⟨0, _⟩ => by show 0 = if (1 : Nat) = 1 then 0 else (i 0).val; rw [if_pos rfl]
    | ⟨1, _⟩ => by show (i 1).val = if (512 : Nat) = 1 then 0 else (i 1).val; rw [if_neg (by decide)])

-- %21 = stablehlo.add %16, %20 : tensor<65536x512xf32>
def val_main_v21 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x512, .f32⟩ : BufTy).Contents (Elt F) :=
  addf (val_main_v16 (F := F) x0 x2 x3 x4) (val_main_v20 (F := F) x4)
theorem val_main_v21_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x512.Idx) :
    val_main_v21 (F := F) x0 x2 x3 x4 i = FloatOps.addf (val_main_v16 (F := F) x0 x2 x3 x4 i) (val_main_v20 (F := F) x4 i) := rfl

-- @argmin's %0 = stablehlo.iota dim = 1 : tensor<65536x512xi32>, in %22 = func.call @argmin(…) (record main_call0)
def val_main_call0_v0 : (⟨S65536x512, .i32⟩ : BufTy).Contents (Elt F) :=
  iotaInDim S65536x512 32 1
theorem val_main_call0_v0_apply (i : S65536x512.Idx) :
    val_main_call0_v0 (F := F) i = BitVec.ofNat 32 (i 1).val := rfl

-- @argmin's %cst = stablehlo.constant dense<0x7F800000> : tensor<f32>, in %22 = func.call @argmin(…) (record main_call0)
def val_main_call0_cst : (⟨S_, .f32⟩ : BufTy).Contents (Elt F) :=
  constant S_ .f32 0x7F800000#32
theorem val_main_call0_cst_apply (i : S_.Idx) :
    val_main_call0_cst (F := F) i = FloatOps.ofBits .f32 0x7F800000#32 := rfl

-- @argmin's %c = stablehlo.constant dense<0> : tensor<i32>, in %22 = func.call @argmin(…) (record main_call0)
def val_main_call0_c : (⟨S_, .i32⟩ : BufTy).Contents (Elt F) :=
  constantI S_ 32 0#32
theorem val_main_call0_c_apply (i : S_.Idx) :
    val_main_call0_c (F := F) i = 0#32 := rfl

-- @argmin's %1:2 = stablehlo.reduce(%arg0 init: %cst), (%0 init: %c) across dimensions = [1] : (tensor<65536x512xf32>, tensor<65536x512xi32>, tensor<f32>, tensor<i32>) -> (tensor<65536xf32>, tensor<65536xi32>) reducer(%arg1: tensor<f32>, %arg3: tensor<f32>) (%arg2: tensor<i32>, %arg4: tensor<i32>) {, in %22 = func.call @argmin(…) (record main_call0)
def val_main_call0_v1_0 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536, .f32⟩ : BufTy).Contents (Elt F) :=
  (fun j => (Host.argReduce reducer_argmin_f32_i32 (val_main_v21 (F := F) x0 x2 x3 x4) (val_main_call0_v0 (F := F)) (val_main_call0_cst (F := F)) (val_main_call0_c (F := F)) reducesTo_S65536x512_S65536_d1 h_S_ j).1)

-- %22 = func.call @argmin(…) (record main_call0) result 0: @argmin's %1:2 = stablehlo.reduce(%arg0 init: %cst), (%0 init: %c) across dimensions = [1] : (tensor<65536x512xf32>, tensor<65536x512xi32>, tensor<f32>, tensor<i32>) -> (tensor<65536xf32>, tensor<65536xi32>) reducer(%arg1: tensor<f32>, %arg3: tensor<f32>) (%arg2: tensor<i32>, %arg4: tensor<i32>) {
def val_main_v22 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536, .i32⟩ : BufTy).Contents (Elt F) :=
  (fun j => (Host.argReduce reducer_argmin_f32_i32 (val_main_v21 (F := F) x0 x2 x3 x4) (val_main_call0_v0 (F := F)) (val_main_call0_cst (F := F)) (val_main_call0_c (F := F)) reducesTo_S65536x512_S65536_d1 h_S_ j).2)

-- @_take's %c = stablehlo.constant dense<0> : tensor<i32>, in %23 = func.call @_take(…) (record main_call1)
def val_main_call1_c : (⟨S_, .i32⟩ : BufTy).Contents (Elt F) :=
  constantI S_ 32 0#32
theorem val_main_call1_c_apply (i : S_.Idx) :
    val_main_call1_c (F := F) i = 0#32 := rfl

-- @_take's %0 = stablehlo.broadcast_in_dim %c, dims = [] : (tensor<i32>) -> tensor<65536xi32>, in %23 = func.call @_take(…) (record main_call1)
def val_main_call1_v0 : (⟨S65536, .i32⟩ : BufTy).Contents (Elt F) :=
  broadcastInDim S65536 ![] bcast_S_S65536 (val_main_call1_c (F := F))
abbrev idx_main_call1_v0 (i : S65536.Idx) : S_.Idx := fun a => a.elim0
theorem val_main_call1_v0_apply (i : S65536.Idx) :
    val_main_call1_v0 (F := F) i = val_main_call1_c (F := F) (idx_main_call1_v0 i) := by
  unfold val_main_call1_v0
  generalize val_main_call1_c (F := F) = y
  exact broadcastInDim_apply _ bcast_S_S65536 y i (idx_main_call1_v0 i) (fun a => a.elim0)

-- @_take's %1 = stablehlo.compare LT, %arg1, %0, SIGNED : (tensor<65536xi32>, tensor<65536xi32>) -> tensor<65536xi1>, in %23 = func.call @_take(…) (record main_call1)
def val_main_call1_v1 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536, .i1⟩ : BufTy).Contents (Elt F) :=
  cmpi .slt (val_main_v22 (F := F) x0 x2 x3 x4) (val_main_call1_v0 (F := F))
theorem val_main_call1_v1_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536.Idx) :
    val_main_call1_v1 (F := F) x0 x2 x3 x4 i = IntOp.cmpi .slt (val_main_v22 (F := F) x0 x2 x3 x4 i) (val_main_call1_v0 (F := F) i) := rfl

-- @_take's %c_0 = stablehlo.constant dense<512> : tensor<i32>, in %23 = func.call @_take(…) (record main_call1)
def val_main_call1_c_0 : (⟨S_, .i32⟩ : BufTy).Contents (Elt F) :=
  constantI S_ 32 512#32
theorem val_main_call1_c_0_apply (i : S_.Idx) :
    val_main_call1_c_0 (F := F) i = 512#32 := rfl

-- @_take's %2 = stablehlo.broadcast_in_dim %c_0, dims = [] : (tensor<i32>) -> tensor<65536xi32>, in %23 = func.call @_take(…) (record main_call1)
def val_main_call1_v2 : (⟨S65536, .i32⟩ : BufTy).Contents (Elt F) :=
  broadcastInDim S65536 ![] bcast_S_S65536 (val_main_call1_c_0 (F := F))
abbrev idx_main_call1_v2 (i : S65536.Idx) : S_.Idx := fun a => a.elim0
theorem val_main_call1_v2_apply (i : S65536.Idx) :
    val_main_call1_v2 (F := F) i = val_main_call1_c_0 (F := F) (idx_main_call1_v2 i) := by
  unfold val_main_call1_v2
  generalize val_main_call1_c_0 (F := F) = y
  exact broadcastInDim_apply _ bcast_S_S65536 y i (idx_main_call1_v2 i) (fun a => a.elim0)

-- @_take's %3 = stablehlo.add %arg1, %2 : tensor<65536xi32>, in %23 = func.call @_take(…) (record main_call1)
def val_main_call1_v3 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536, .i32⟩ : BufTy).Contents (Elt F) :=
  addi (val_main_v22 (F := F) x0 x2 x3 x4) (val_main_call1_v2 (F := F))
theorem val_main_call1_v3_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536.Idx) :
    val_main_call1_v3 (F := F) x0 x2 x3 x4 i = IntOp.addi (val_main_v22 (F := F) x0 x2 x3 x4 i) (val_main_call1_v2 (F := F) i) := rfl

-- @_take's %4 = func.call @_where(…) (record main_call1_call0) result 0: @_where's %0 = stablehlo.select %arg0, %arg1, %arg2 : tensor<65536xi1>, tensor<65536xi32>
def val_main_call1_v4 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536, .i32⟩ : BufTy).Contents (Elt F) :=
  select (val_main_call1_v1 (F := F) x0 x2 x3 x4) (val_main_call1_v3 (F := F) x0 x2 x3 x4) (val_main_v22 (F := F) x0 x2 x3 x4)
theorem val_main_call1_v4_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536.Idx) :
    val_main_call1_v4 (F := F) x0 x2 x3 x4 i = Scalar.select (val_main_call1_v1 (F := F) x0 x2 x3 x4 i) (val_main_call1_v3 (F := F) x0 x2 x3 x4 i) (val_main_v22 (F := F) x0 x2 x3 x4 i) := rfl

-- @_take's %5 = stablehlo.broadcast_in_dim %4, dims = [0] : (tensor<65536xi32>) -> tensor<65536x1xi32>, in %23 = func.call @_take(…) (record main_call1)
def val_main_call1_v5 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x1, .i32⟩ : BufTy).Contents (Elt F) :=
  broadcastInDim S65536x1 ![0] bcast_S65536_S65536x1_0 (val_main_call1_v4 (F := F) x0 x2 x3 x4)
abbrev idx_main_call1_v5 (i : S65536x1.Idx) : S65536.Idx := fun a => match a with
  | ⟨0, _⟩ => ⟨(i 0).val, (i 0).isLt⟩
theorem val_main_call1_v5_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x1.Idx) :
    val_main_call1_v5 (F := F) x0 x2 x3 x4 i = val_main_call1_v4 (F := F) x0 x2 x3 x4 (idx_main_call1_v5 i) := by
  unfold val_main_call1_v5
  generalize val_main_call1_v4 (F := F) x0 x2 x3 x4 = y
  exact broadcastInDim_apply _ bcast_S65536_S65536x1_0 y i (idx_main_call1_v5 i) (fun a => match a with
    | ⟨0, _⟩ => by show (i 0).val = if (65536 : Nat) = 1 then 0 else (i 0).val; rw [if_neg (by decide)])

-- @_take's %c_1 = stablehlo.constant dense<511> : tensor<1xi32>, in %23 = func.call @_take(…) (record main_call1)
def val_main_call1_c_1 : (⟨S1, .i32⟩ : BufTy).Contents (Elt F) :=
  constantI S1 32 511#32
theorem val_main_call1_c_1_apply (i : S1.Idx) :
    val_main_call1_c_1 (F := F) i = 511#32 := rfl

-- @_take's %c_2 = stablehlo.constant dense<0> : tensor<i32>, in %23 = func.call @_take(…) (record main_call1)
def val_main_call1_c_2 : (⟨S_, .i32⟩ : BufTy).Contents (Elt F) :=
  constantI S_ 32 0#32
theorem val_main_call1_c_2_apply (i : S_.Idx) :
    val_main_call1_c_2 (F := F) i = 0#32 := rfl

-- @_take's %6 = stablehlo.broadcast_in_dim %c_2, dims = [] : (tensor<i32>) -> tensor<65536x1xi32>, in %23 = func.call @_take(…) (record main_call1)
def val_main_call1_v6 : (⟨S65536x1, .i32⟩ : BufTy).Contents (Elt F) :=
  broadcastInDim S65536x1 ![] bcast_S_S65536x1 (val_main_call1_c_2 (F := F))
abbrev idx_main_call1_v6 (i : S65536x1.Idx) : S_.Idx := fun a => a.elim0
theorem val_main_call1_v6_apply (i : S65536x1.Idx) :
    val_main_call1_v6 (F := F) i = val_main_call1_c_2 (F := F) (idx_main_call1_v6 i) := by
  unfold val_main_call1_v6
  generalize val_main_call1_c_2 (F := F) = y
  exact broadcastInDim_apply _ bcast_S_S65536x1 y i (idx_main_call1_v6 i) (fun a => a.elim0)

-- @_take's %7 = stablehlo.compare GE, %5, %6, SIGNED : (tensor<65536x1xi32>, tensor<65536x1xi32>) -> tensor<65536x1xi1>, in %23 = func.call @_take(…) (record main_call1)
def val_main_call1_v7 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x1, .i1⟩ : BufTy).Contents (Elt F) :=
  cmpi .sge (val_main_call1_v5 (F := F) x0 x2 x3 x4) (val_main_call1_v6 (F := F))
theorem val_main_call1_v7_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x1.Idx) :
    val_main_call1_v7 (F := F) x0 x2 x3 x4 i = IntOp.cmpi .sge (val_main_call1_v5 (F := F) x0 x2 x3 x4 i) (val_main_call1_v6 (F := F) i) := rfl

-- @_take's %8 = stablehlo.broadcast_in_dim %c_1, dims = [1] : (tensor<1xi32>) -> tensor<1x1xi32>, in %23 = func.call @_take(…) (record main_call1)
def val_main_call1_v8 : (⟨S1x1, .i32⟩ : BufTy).Contents (Elt F) :=
  broadcastInDim S1x1 ![1] bcast_S1_S1x1_1 (val_main_call1_c_1 (F := F))
abbrev idx_main_call1_v8 (i : S1x1.Idx) : S1.Idx := fun a => match a with
  | ⟨0, _⟩ => ⟨0, Nat.one_pos⟩
theorem val_main_call1_v8_apply (i : S1x1.Idx) :
    val_main_call1_v8 (F := F) i = val_main_call1_c_1 (F := F) (idx_main_call1_v8 i) := by
  unfold val_main_call1_v8
  generalize val_main_call1_c_1 (F := F) = y
  exact broadcastInDim_apply _ bcast_S1_S1x1_1 y i (idx_main_call1_v8 i) (fun a => match a with
    | ⟨0, _⟩ => by show 0 = if (1 : Nat) = 1 then 0 else (i 1).val; rw [if_pos rfl])

-- @_take's %9 = stablehlo.broadcast_in_dim %8, dims = [0, 1] : (tensor<1x1xi32>) -> tensor<65536x1xi32>, in %23 = func.call @_take(…) (record main_call1)
def val_main_call1_v9 : (⟨S65536x1, .i32⟩ : BufTy).Contents (Elt F) :=
  broadcastInDim S65536x1 ![0, 1] bcast_S1x1_S65536x1_0_1 (val_main_call1_v8 (F := F))
abbrev idx_main_call1_v9 (i : S65536x1.Idx) : S1x1.Idx := fun a => match a with
  | ⟨0, _⟩ => ⟨0, Nat.one_pos⟩
  | ⟨1, _⟩ => ⟨0, Nat.one_pos⟩
theorem val_main_call1_v9_apply (i : S65536x1.Idx) :
    val_main_call1_v9 (F := F) i = val_main_call1_v8 (F := F) (idx_main_call1_v9 i) := by
  unfold val_main_call1_v9
  generalize val_main_call1_v8 (F := F) = y
  exact broadcastInDim_apply _ bcast_S1x1_S65536x1_0_1 y i (idx_main_call1_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

-- @_take's %10 = stablehlo.compare LE, %5, %9, SIGNED : (tensor<65536x1xi32>, tensor<65536x1xi32>) -> tensor<65536x1xi1>, in %23 = func.call @_take(…) (record main_call1)
def val_main_call1_v10 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x1, .i1⟩ : BufTy).Contents (Elt F) :=
  cmpi .sle (val_main_call1_v5 (F := F) x0 x2 x3 x4) (val_main_call1_v9 (F := F))
theorem val_main_call1_v10_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x1.Idx) :
    val_main_call1_v10 (F := F) x0 x2 x3 x4 i = IntOp.cmpi .sle (val_main_call1_v5 (F := F) x0 x2 x3 x4 i) (val_main_call1_v9 (F := F) i) := rfl

-- @_take's %11 = stablehlo.and %7, %10 : tensor<65536x1xi1>, in %23 = func.call @_take(…) (record main_call1)
def val_main_call1_v11 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x1, .i1⟩ : BufTy).Contents (Elt F) :=
  andi (val_main_call1_v7 (F := F) x0 x2 x3 x4) (val_main_call1_v10 (F := F) x0 x2 x3 x4)
theorem val_main_call1_v11_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x1.Idx) :
    val_main_call1_v11 (F := F) x0 x2 x3 x4 i = IntOp.andi (val_main_call1_v7 (F := F) x0 x2 x3 x4 i) (val_main_call1_v10 (F := F) x0 x2 x3 x4 i) := rfl

-- @_take's %c_3 = stablehlo.constant dense<true> : tensor<i1>, in %23 = func.call @_take(…) (record main_call1)
def val_main_call1_c_3 : (⟨S_, .i1⟩ : BufTy).Contents (Elt F) :=
  constantI S_ 1 1#1
theorem val_main_call1_c_3_apply (i : S_.Idx) :
    val_main_call1_c_3 (F := F) i = 1#1 := rfl

-- @_take's %12 = stablehlo.reduce(%11 init: %c_3) applies stablehlo.and across dimensions = [1] : (tensor<65536x1xi1>, tensor<i1>) -> tensor<65536xi1> {, in %23 = func.call @_take(…) (record main_call1)
def val_main_call1_v12 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536, .i1⟩ : BufTy).Contents (Elt F) :=
  Host.reduce IntOp.andi (val_main_call1_v11 (F := F) x0 x2 x3 x4) (val_main_call1_c_3 (F := F)) reducesTo_S65536x1_S65536_d1 h_S_

-- @_take's %13 = "stablehlo.gather"(%arg0, %5) <{dimension_numbers = #stablehlo.gather<offset_dims = [1], collapsed_slice_dims = [0], start_index_map = [0], index_vector_dim = 1>, indices_are_sorted = false, slice_sizes = array<i64: 1, 32>}> : (tensor<512x32xf32>, tensor<65536x1xi32>) -> tensor<65536x32xf32>, in %23 = func.call @_take(…) (record main_call1)
def val_main_call1_v13 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x32, .f32⟩ : BufTy).Contents (Elt F) :=
  Host.gather gather_S512x32_S65536x1_S65536x32_1_0_n_n_0_1_132 (x4) (val_main_call1_v5 (F := F) x0 x2 x3 x4)

-- @_take's %14 = stablehlo.broadcast_in_dim %12, dims = [0] : (tensor<65536xi1>) -> tensor<65536x32xi1>, in %23 = func.call @_take(…) (record main_call1)
def val_main_call1_v14 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x32, .i1⟩ : BufTy).Contents (Elt F) :=
  broadcastInDim S65536x32 ![0] bcast_S65536_S65536x32_0 (val_main_call1_v12 (F := F) x0 x2 x3 x4)
abbrev idx_main_call1_v14 (i : S65536x32.Idx) : S65536.Idx := fun a => match a with
  | ⟨0, _⟩ => ⟨(i 0).val, (i 0).isLt⟩
theorem val_main_call1_v14_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x32.Idx) :
    val_main_call1_v14 (F := F) x0 x2 x3 x4 i = val_main_call1_v12 (F := F) x0 x2 x3 x4 (idx_main_call1_v14 i) := by
  unfold val_main_call1_v14
  generalize val_main_call1_v12 (F := F) x0 x2 x3 x4 = y
  exact broadcastInDim_apply _ bcast_S65536_S65536x32_0 y i (idx_main_call1_v14 i) (fun a => match a with
    | ⟨0, _⟩ => by show (i 0).val = if (65536 : Nat) = 1 then 0 else (i 0).val; rw [if_neg (by decide)])

-- @_take's %cst = stablehlo.constant dense<0x7FC00000> : tensor<f32>, in %23 = func.call @_take(…) (record main_call1)
def val_main_call1_cst : (⟨S_, .f32⟩ : BufTy).Contents (Elt F) :=
  constant S_ .f32 0x7FC00000#32
theorem val_main_call1_cst_apply (i : S_.Idx) :
    val_main_call1_cst (F := F) i = FloatOps.ofBits .f32 0x7FC00000#32 := rfl

-- @_take's %15 = stablehlo.broadcast_in_dim %cst, dims = [] : (tensor<f32>) -> tensor<65536x32xf32>, in %23 = func.call @_take(…) (record main_call1)
def val_main_call1_v15 : (⟨S65536x32, .f32⟩ : BufTy).Contents (Elt F) :=
  broadcastInDim S65536x32 ![] bcast_S_S65536x32 (val_main_call1_cst (F := F))
abbrev idx_main_call1_v15 (i : S65536x32.Idx) : S_.Idx := fun a => a.elim0
theorem val_main_call1_v15_apply (i : S65536x32.Idx) :
    val_main_call1_v15 (F := F) i = val_main_call1_cst (F := F) (idx_main_call1_v15 i) := by
  unfold val_main_call1_v15
  generalize val_main_call1_cst (F := F) = y
  exact broadcastInDim_apply _ bcast_S_S65536x32 y i (idx_main_call1_v15 i) (fun a => a.elim0)

-- %23 = func.call @_take(…) (record main_call1) result 0: @_take's %16 = stablehlo.select %14, %13, %15 : tensor<65536x32xi1>, tensor<65536x32xf32>
def val_main_v23 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S65536x32, .f32⟩ : BufTy).Contents (Elt F) :=
  select (val_main_call1_v14 (F := F) x0 x2 x3 x4) (val_main_call1_v13 (F := F) x0 x2 x3 x4) (val_main_call1_v15 (F := F))
theorem val_main_v23_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S65536x32.Idx) :
    val_main_v23 (F := F) x0 x2 x3 x4 i = Scalar.select (val_main_call1_v14 (F := F) x0 x2 x3 x4 i) (val_main_call1_v13 (F := F) x0 x2 x3 x4 i) (val_main_call1_v15 (F := F) i) := rfl

-- %24 = stablehlo.reshape %23 : (tensor<65536x32xf32>) -> tensor<16x4096x32xf32>
def val_main_v24 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x4096x32, .f32⟩ : BufTy).Contents (Elt F) :=
  shapeCast _ (val_main_v23 (F := F) x0 x2 x3 x4) shapeCasts_S65536x32_S16x4096x32
set_option backward.proofsInPublic true in
abbrev idx_main_v24 (i : S16x4096x32.Idx) : S65536x32.Idx := fun a => match a with
  | ⟨0, _⟩ => ⟨(((i 0).val * 4096 + (i 1).val) * 32 + (i 2).val) / 32, by have h0 : (i 0).val < 16 := (i 0).isLt; have h1 : (i 1).val < 4096 := (i 1).isLt; have h2 : (i 2).val < 32 := (i 2).isLt; show (((i 0).val * 4096 + (i 1).val) * 32 + (i 2).val) / 32 < 65536; omega⟩
  | ⟨1, _⟩ => ⟨(((i 0).val * 4096 + (i 1).val) * 32 + (i 2).val) % 32, by have h0 : (i 0).val < 16 := (i 0).isLt; have h1 : (i 1).val < 4096 := (i 1).isLt; have h2 : (i 2).val < 32 := (i 2).isLt; show (((i 0).val * 4096 + (i 1).val) * 32 + (i 2).val) % 32 < 32; omega⟩
theorem val_main_v24_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x4096x32.Idx) :
    val_main_v24 (F := F) x0 x2 x3 x4 i = val_main_v23 (F := F) x0 x2 x3 x4 (idx_main_v24 i) := by
  unfold val_main_v24
  generalize val_main_v23 (F := F) x0 x2 x3 x4 = y
  exact shapeCast_apply y shapeCasts_S65536x32_S16x4096x32 i (idx_main_v24 i)
    (by rewrite [Shape.rowMajor_val_two, Shape.rowMajor_val_three]; have h0 : (i 0).val < 16 := (i 0).isLt; have h1 : (i 1).val < 4096 := (i 1).isLt; have h2 : (i 2).val < 32 := (i 2).isLt; show (((i 0).val * 4096 + (i 1).val) * 32 + (i 2).val) / 32 * 32 + (((i 0).val * 4096 + (i 1).val) * 32 + (i 2).val) % 32 = ((i 0).val * 4096 + (i 1).val) * 32 + (i 2).val; omega)

-- %25 = stablehlo.subtract %24, %6 : tensor<16x4096x32xf32>
def val_main_v25 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x4096x32, .f32⟩ : BufTy).Contents (Elt F) :=
  subf (val_main_v24 (F := F) x0 x2 x3 x4) (val_main_v6 (F := F) x0 x2 x3)
theorem val_main_v25_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x4096x32.Idx) :
    val_main_v25 (F := F) x0 x2 x3 x4 i = FloatOps.subf (val_main_v24 (F := F) x0 x2 x3 x4 i) (val_main_v6 (F := F) x0 x2 x3 i) := rfl

-- %26 = stablehlo.subtract %24, %6 : tensor<16x4096x32xf32>
def val_main_v26 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x4096x32, .f32⟩ : BufTy).Contents (Elt F) :=
  subf (val_main_v24 (F := F) x0 x2 x3 x4) (val_main_v6 (F := F) x0 x2 x3)
theorem val_main_v26_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x4096x32.Idx) :
    val_main_v26 (F := F) x0 x2 x3 x4 i = FloatOps.subf (val_main_v24 (F := F) x0 x2 x3 x4 i) (val_main_v6 (F := F) x0 x2 x3 i) := rfl

-- %27 = stablehlo.multiply %25, %26 : tensor<16x4096x32xf32>
def val_main_v27 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x4096x32, .f32⟩ : BufTy).Contents (Elt F) :=
  mulf (val_main_v25 (F := F) x0 x2 x3 x4) (val_main_v26 (F := F) x0 x2 x3 x4)
theorem val_main_v27_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x4096x32.Idx) :
    val_main_v27 (F := F) x0 x2 x3 x4 i = FloatOps.mulf (val_main_v25 (F := F) x0 x2 x3 x4 i) (val_main_v26 (F := F) x0 x2 x3 x4 i) := rfl

-- %cst_2 = stablehlo.constant dense<0.000000e+00> : tensor<f32>
def val_main_cst_2 : (⟨S_, .f32⟩ : BufTy).Contents (Elt F) :=
  constant S_ .f32 0x00000000#32
theorem val_main_cst_2_apply (i : S_.Idx) :
    val_main_cst_2 (F := F) i = FloatOps.ofBits .f32 0x00000000#32 := rfl

-- %28 = stablehlo.reduce(%27 init: %cst_2) applies stablehlo.add across dimensions = [0, 1, 2] : (tensor<16x4096x32xf32>, tensor<f32>) -> tensor<f32> {
def val_main_v28 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S_, .f32⟩ : BufTy).Contents (Elt F) :=
  Host.reduceAdd (val_main_v27 (F := F) x0 x2 x3 x4) (val_main_cst_2 (F := F)) reducesTo_S16x4096x32_S_d0_1_2 h_S_
/-- Stated at `F := Ideal`, where the host's float sum is this sum; at a bit-exact instance it is an opaque function of its operand. -/
theorem val_main_v28_apply (x0 : (⟨S16x256x8192, .f32⟩ : BufTy).Contents (Elt Ideal)) (x2 : (⟨S32x256x2, .f32⟩ : BufTy).Contents (Elt Ideal)) (x3 : (⟨S32, .f32⟩ : BufTy).Contents (Elt Ideal)) (x4 : (⟨S512x32, .f32⟩ : BufTy).Contents (Elt Ideal)) (i : S_.Idx) :
    val_main_v28 (F := Ideal) x0 x2 x3 x4 i = (val_main_cst_2 (F := Ideal)) (Shape.Idx.first h_S_) + ∑ j : S16x4096x32.Idx, (val_main_v27 (F := Ideal) x0 x2 x3 x4) j := by
  unfold val_main_v28
  generalize val_main_v27 (F := Ideal) x0 x2 x3 x4 = y0
  simp only [Host.reduceAdd, Ideal.hostReduceAdd_def]
  exact Ideal.hostReduceAdd_total reducesTo_S16x4096x32_S_d0_1_2 (fun b => b.elim0) y0 _ i

-- %cst_3 = stablehlo.constant dense<0x4A000000> : tensor<f32>
def val_main_cst_3 : (⟨S_, .f32⟩ : BufTy).Contents (Elt F) :=
  constant S_ .f32 0x4A000000#32
theorem val_main_cst_3_apply (i : S_.Idx) :
    val_main_cst_3 (F := F) i = FloatOps.ofBits .f32 0x4A000000#32 := rfl

-- %29 = stablehlo.divide %28, %cst_3 : tensor<f32>
def val_main_v29 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S_, .f32⟩ : BufTy).Contents (Elt F) :=
  Host.divf (val_main_v28 (F := F) x0 x2 x3 x4) (val_main_cst_3 (F := F))
theorem val_main_v29_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S_.Idx) :
    val_main_v29 (F := F) x0 x2 x3 x4 i = FloatOps.hostDivf (val_main_v28 (F := F) x0 x2 x3 x4 i) (val_main_cst_3 (F := F) i) := rfl

-- %30 = stablehlo.subtract %24, %6 : tensor<16x4096x32xf32>
def val_main_v30 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x4096x32, .f32⟩ : BufTy).Contents (Elt F) :=
  subf (val_main_v24 (F := F) x0 x2 x3 x4) (val_main_v6 (F := F) x0 x2 x3)
theorem val_main_v30_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x4096x32.Idx) :
    val_main_v30 (F := F) x0 x2 x3 x4 i = FloatOps.subf (val_main_v24 (F := F) x0 x2 x3 x4 i) (val_main_v6 (F := F) x0 x2 x3 i) := rfl

-- %31 = stablehlo.add %6, %30 : tensor<16x4096x32xf32>
def val_main_v31 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x4096x32, .f32⟩ : BufTy).Contents (Elt F) :=
  addf (val_main_v6 (F := F) x0 x2 x3) (val_main_v30 (F := F) x0 x2 x3 x4)
theorem val_main_v31_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x4096x32.Idx) :
    val_main_v31 (F := F) x0 x2 x3 x4 i = FloatOps.addf (val_main_v6 (F := F) x0 x2 x3 i) (val_main_v30 (F := F) x0 x2 x3 x4 i) := rfl

-- %32 = stablehlo.transpose %31, dims = [0, 2, 1] : (tensor<16x4096x32xf32>) -> tensor<16x32x4096xf32>
def val_main_v32 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x32x4096, .f32⟩ : BufTy).Contents (Elt F) :=
  transpose S16x32x4096 [0, 2, 1] (val_main_v31 (F := F) x0 x2 x3 x4) transposes_S16x4096x32_S16x32x4096_0_2_1
abbrev idx_main_v32 (i : S16x32x4096.Idx) : S16x4096x32.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v32_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x32x4096.Idx) :
    val_main_v32 (F := F) x0 x2 x3 x4 i = val_main_v31 (F := F) x0 x2 x3 x4 (idx_main_v32 i) := by
  unfold val_main_v32
  generalize val_main_v31 (F := F) x0 x2 x3 x4 = y
  exact transpose_apply [0, 2, 1] y transposes_S16x4096x32_S16x32x4096_0_2_1 i (idx_main_v32 i) (fun b => match b with
    | ⟨0, _⟩ => rfl
    | ⟨1, _⟩ => rfl
    | ⟨2, _⟩ => rfl)

-- %33 = stablehlo.broadcast_in_dim %32, dims = [0, 1, 2] : (tensor<16x32x4096xf32>) -> tensor<16x32x4096x2xf32>
def val_main_v33 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x32x4096x2, .f32⟩ : BufTy).Contents (Elt F) :=
  broadcastInDim S16x32x4096x2 ![0, 1, 2] bcast_S16x32x4096_S16x32x4096x2_0_1_2 (val_main_v32 (F := F) x0 x2 x3 x4)
abbrev idx_main_v33 (i : S16x32x4096x2.Idx) : S16x32x4096.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v33_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x32x4096x2.Idx) :
    val_main_v33 (F := F) x0 x2 x3 x4 i = val_main_v32 (F := F) x0 x2 x3 x4 (idx_main_v33 i) := by
  unfold val_main_v33
  generalize val_main_v32 (F := F) x0 x2 x3 x4 = y
  exact broadcastInDim_apply _ bcast_S16x32x4096_S16x32x4096x2_0_1_2 y i (idx_main_v33 i) (fun a => match a with
    | ⟨0, _⟩ => by show (i 0).val = if (16 : Nat) = 1 then 0 else (i 0).val; rw [if_neg (by decide)]
    | ⟨1, _⟩ => by show (i 1).val = if (32 : Nat) = 1 then 0 else (i 1).val; rw [if_neg (by decide)]
    | ⟨2, _⟩ => by show (i 2).val = if (4096 : Nat) = 1 then 0 else (i 2).val; rw [if_neg (by decide)])

-- %34 = stablehlo.reshape %33 : (tensor<16x32x4096x2xf32>) -> tensor<16x32x8192xf32>
def val_main_v34 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S16x32x8192, .f32⟩ : BufTy).Contents (Elt F) :=
  shapeCast _ (val_main_v33 (F := F) x0 x2 x3 x4) shapeCasts_S16x32x4096x2_S16x32x8192
set_option backward.proofsInPublic true in
abbrev idx_main_v34 (i : S16x32x8192.Idx) : S16x32x4096x2.Idx := fun a => match a with
  | ⟨0, _⟩ => ⟨(((i 0).val * 32 + (i 1).val) * 8192 + (i 2).val) / 262144, by have h0 : (i 0).val < 16 := (i 0).isLt; have h1 : (i 1).val < 32 := (i 1).isLt; have h2 : (i 2).val < 8192 := (i 2).isLt; show (((i 0).val * 32 + (i 1).val) * 8192 + (i 2).val) / 262144 < 16; omega⟩
  | ⟨1, _⟩ => ⟨(((i 0).val * 32 + (i 1).val) * 8192 + (i 2).val) / 8192 % 32, by have h0 : (i 0).val < 16 := (i 0).isLt; have h1 : (i 1).val < 32 := (i 1).isLt; have h2 : (i 2).val < 8192 := (i 2).isLt; show (((i 0).val * 32 + (i 1).val) * 8192 + (i 2).val) / 8192 % 32 < 32; omega⟩
  | ⟨2, _⟩ => ⟨(((i 0).val * 32 + (i 1).val) * 8192 + (i 2).val) / 2 % 4096, by have h0 : (i 0).val < 16 := (i 0).isLt; have h1 : (i 1).val < 32 := (i 1).isLt; have h2 : (i 2).val < 8192 := (i 2).isLt; show (((i 0).val * 32 + (i 1).val) * 8192 + (i 2).val) / 2 % 4096 < 4096; omega⟩
  | ⟨3, _⟩ => ⟨(((i 0).val * 32 + (i 1).val) * 8192 + (i 2).val) % 2, by have h0 : (i 0).val < 16 := (i 0).isLt; have h1 : (i 1).val < 32 := (i 1).isLt; have h2 : (i 2).val < 8192 := (i 2).isLt; show (((i 0).val * 32 + (i 1).val) * 8192 + (i 2).val) % 2 < 2; omega⟩
theorem val_main_v34_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (i : S16x32x8192.Idx) :
    val_main_v34 (F := F) x0 x2 x3 x4 i = val_main_v33 (F := F) x0 x2 x3 x4 (idx_main_v34 i) := by
  unfold val_main_v34
  generalize val_main_v33 (F := F) x0 x2 x3 x4 = y
  exact shapeCast_apply y shapeCasts_S16x32x4096x2_S16x32x8192 i (idx_main_v34 i)
    (by rewrite [Shape.rowMajor_val_four, Shape.rowMajor_val_three]; have h0 : (i 0).val < 16 := (i 0).isLt; have h1 : (i 1).val < 32 := (i 1).isLt; have h2 : (i 2).val < 8192 := (i 2).isLt; show (((((i 0).val * 32 + (i 1).val) * 8192 + (i 2).val) / 262144 * 32 + (((i 0).val * 32 + (i 1).val) * 8192 + (i 2).val) / 8192 % 32) * 4096 + (((i 0).val * 32 + (i 1).val) * 8192 + (i 2).val) / 2 % 4096) * 2 + (((i 0).val * 32 + (i 1).val) * 8192 + (i 2).val) % 2 = ((i 0).val * 32 + (i 1).val) * 8192 + (i 2).val; omega)

-- %35 = stablehlo.reshape %arg5 : (tensor<256x32x1xf32>) -> tensor<256x32xf32>
def val_main_v35 (x5 : (⟨S256x32x1, .f32⟩ : BufTy).Contents (Elt F)) : (⟨S256x32, .f32⟩ : BufTy).Contents (Elt F) :=
  shapeCast _ (x5) shapeCasts_S256x32x1_S256x32
set_option backward.proofsInPublic true in
abbrev idx_main_v35 (i : S256x32.Idx) : S256x32x1.Idx := fun a => match a with
  | ⟨0, _⟩ => ⟨((i 0).val * 32 + (i 1).val) / 32, by have h0 : (i 0).val < 256 := (i 0).isLt; have h1 : (i 1).val < 32 := (i 1).isLt; show ((i 0).val * 32 + (i 1).val) / 32 < 256; omega⟩
  | ⟨1, _⟩ => ⟨((i 0).val * 32 + (i 1).val) / 1 % 32, by have h0 : (i 0).val < 256 := (i 0).isLt; have h1 : (i 1).val < 32 := (i 1).isLt; show ((i 0).val * 32 + (i 1).val) / 1 % 32 < 32; omega⟩
  | ⟨2, _⟩ => ⟨0, Nat.one_pos⟩
theorem val_main_v35_apply (x5 : (⟨S256x32x1, .f32⟩ : BufTy).Contents (Elt F)) (i : S256x32.Idx) :
    val_main_v35 (F := F) x5 i = x5 (idx_main_v35 i) := by
  unfold val_main_v35
  exact shapeCast_apply x5 shapeCasts_S256x32x1_S256x32 i (idx_main_v35 i)
    (by rewrite [Shape.rowMajor_val_three, Shape.rowMajor_val_two]; have h0 : (i 0).val < 256 := (i 0).isLt; have h1 : (i 1).val < 32 := (i 1).isLt; show (((i 0).val * 32 + (i 1).val) / 32 * 32 + ((i 0).val * 32 + (i 1).val) / 1 % 32) * 1 + 0 = (i 0).val * 32 + (i 1).val; omega)

-- %36 = stablehlo.dot_general %34, %35, contracting_dims = [1] x [1], precision = [DEFAULT, DEFAULT] : (tensor<16x32x8192xf32>, tensor<256x32xf32>) -> tensor<16x8192x256xf32>
def val_main_v36 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (x5 : (⟨S256x32x1, .f32⟩ : BufTy).Contents (Elt F)) : (⟨S16x8192x256, .f32⟩ : BufTy).Contents (Elt F) :=
  Host.dotGeneral dot_S16x32x8192_S256x32_S16x8192x256_1_1_02_0_n_n none (val_main_v34 (F := F) x0 x2 x3 x4) (val_main_v35 (F := F) x5)
theorem lhs_main_v36_0 (i : S16x8192x256.Idx) (q : dot_S16x32x8192_S256x32_S16x8192x256_1_1_02_0_n_n.contr.Idx) :
    (dot_S16x32x8192_S256x32_S16x8192x256_1_1_02_0_n_n.lhsIdx i q 0).val = (i 0).val := by
  unfold DotDims.lhsIdx
  rw [dif_neg (show ¬(0 : Fin S16x32x8192.rank) ∈ dot_S16x32x8192_S256x32_S16x8192x256_1_1_02_0_n_n.lhsBatch by decide), dif_pos (show (0 : Fin S16x32x8192.rank) ∈ dot_S16x32x8192_S256x32_S16x8192x256_1_1_02_0_n_n.lhsNonContracting by decide)]
  rfl
theorem lhs_main_v36_1 (i : S16x8192x256.Idx) (q : dot_S16x32x8192_S256x32_S16x8192x256_1_1_02_0_n_n.contr.Idx) :
    (dot_S16x32x8192_S256x32_S16x8192x256_1_1_02_0_n_n.lhsIdx i q 1).val = (q ⟨0, by decide⟩).val :=
  dot_S16x32x8192_S256x32_S16x8192x256_1_1_02_0_n_n.lhsIdx_val_of_single rfl i q
theorem lhs_main_v36_2 (i : S16x8192x256.Idx) (q : dot_S16x32x8192_S256x32_S16x8192x256_1_1_02_0_n_n.contr.Idx) :
    (dot_S16x32x8192_S256x32_S16x8192x256_1_1_02_0_n_n.lhsIdx i q 2).val = (i 1).val := by
  unfold DotDims.lhsIdx
  rw [dif_neg (show ¬(2 : Fin S16x32x8192.rank) ∈ dot_S16x32x8192_S256x32_S16x8192x256_1_1_02_0_n_n.lhsBatch by decide), dif_pos (show (2 : Fin S16x32x8192.rank) ∈ dot_S16x32x8192_S256x32_S16x8192x256_1_1_02_0_n_n.lhsNonContracting by decide)]
  rfl
theorem rhs_main_v36_0 (i : S16x8192x256.Idx) (q : dot_S16x32x8192_S256x32_S16x8192x256_1_1_02_0_n_n.contr.Idx) :
    (dot_S16x32x8192_S256x32_S16x8192x256_1_1_02_0_n_n.rhsIdx i q 0).val = (i 2).val := by
  unfold DotDims.rhsIdx
  rw [dif_neg (show ¬(0 : Fin S256x32.rank) ∈ dot_S16x32x8192_S256x32_S16x8192x256_1_1_02_0_n_n.rhsBatch by decide), dif_pos (show (0 : Fin S256x32.rank) ∈ dot_S16x32x8192_S256x32_S16x8192x256_1_1_02_0_n_n.rhsNonContracting by decide)]
  rfl
theorem rhs_main_v36_1 (i : S16x8192x256.Idx) (q : dot_S16x32x8192_S256x32_S16x8192x256_1_1_02_0_n_n.contr.Idx) :
    (dot_S16x32x8192_S256x32_S16x8192x256_1_1_02_0_n_n.rhsIdx i q 1).val = (q ⟨0, by decide⟩).val :=
  dot_S16x32x8192_S256x32_S16x8192x256_1_1_02_0_n_n.rhsIdx_val_of_single rfl i q
abbrev lidx_main_v36 (i : S16x8192x256.Idx) (k : Fin 32) : S16x32x8192.Idx := fun a => match a with
  | ⟨0, _⟩ => ⟨(i 0).val, (i 0).isLt⟩
  | ⟨1, _⟩ => ⟨k.val, k.isLt⟩
  | ⟨2, _⟩ => ⟨(i 1).val, (i 1).isLt⟩
abbrev ridx_main_v36 (i : S16x8192x256.Idx) (k : Fin 32) : S256x32.Idx := fun a => match a with
  | ⟨0, _⟩ => ⟨(i 2).val, (i 2).isLt⟩
  | ⟨1, _⟩ => ⟨k.val, k.isLt⟩
/-- Stated at `F := Ideal`, where the host's `dot_general` is this sum; at a bit-exact instance it is an opaque function of its operands. -/
theorem val_main_v36_apply (x0 : (⟨S16x256x8192, .f32⟩ : BufTy).Contents (Elt Ideal)) (x2 : (⟨S32x256x2, .f32⟩ : BufTy).Contents (Elt Ideal)) (x3 : (⟨S32, .f32⟩ : BufTy).Contents (Elt Ideal)) (x4 : (⟨S512x32, .f32⟩ : BufTy).Contents (Elt Ideal)) (x5 : (⟨S256x32x1, .f32⟩ : BufTy).Contents (Elt Ideal)) (i : S16x8192x256.Idx) :
    val_main_v36 (F := Ideal) x0 x2 x3 x4 x5 i = ∑ k : Fin 32, (val_main_v34 (F := Ideal) x0 x2 x3 x4) (lidx_main_v36 i k) * (val_main_v35 (F := Ideal) x5) (ridx_main_v36 i k) := by
  unfold val_main_v36
  generalize val_main_v34 (F := Ideal) x0 x2 x3 x4 = y0
  generalize val_main_v35 (F := Ideal) x5 = y1
  simp only [Host.dotGeneral]
  rw [Ideal.dotGeneral_apply, ← Equiv.sum_comp (ValueIdx.contrEquiv1 dot_S16x32x8192_S256x32_S16x8192x256_1_1_02_0_n_n 32 rfl rfl).symm]
  refine Finset.sum_congr rfl fun k _ => ?_
  have hk := ValueIdx.contrEquiv1_symm_val dot_S16x32x8192_S256x32_S16x8192x256_1_1_02_0_n_n 32 rfl rfl k
  have el : dot_S16x32x8192_S256x32_S16x8192x256_1_1_02_0_n_n.lhsIdx i ((ValueIdx.contrEquiv1 dot_S16x32x8192_S256x32_S16x8192x256_1_1_02_0_n_n 32 rfl rfl).symm k) = lidx_main_v36 i k := funext fun a => Fin.ext (by
    match a with
    | ⟨0, _⟩ => exact lhs_main_v36_0 _ _
    | ⟨1, _⟩ => exact (lhs_main_v36_1 _ _).trans hk
    | ⟨2, _⟩ => exact lhs_main_v36_2 _ _)
  have er : dot_S16x32x8192_S256x32_S16x8192x256_1_1_02_0_n_n.rhsIdx i ((ValueIdx.contrEquiv1 dot_S16x32x8192_S256x32_S16x8192x256_1_1_02_0_n_n 32 rfl rfl).symm k) = ridx_main_v36 i k := funext fun a => Fin.ext (by
    match a with
    | ⟨0, _⟩ => exact rhs_main_v36_0 _ _
    | ⟨1, _⟩ => exact (rhs_main_v36_1 _ _).trans hk)
  rw [el, er]

-- %37 = stablehlo.transpose %36, dims = [0, 2, 1] : (tensor<16x8192x256xf32>) -> tensor<16x256x8192xf32>
def val_main_v37 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (x5 : (⟨S256x32x1, .f32⟩ : BufTy).Contents (Elt F)) : (⟨S16x256x8192, .f32⟩ : BufTy).Contents (Elt F) :=
  transpose S16x256x8192 [0, 2, 1] (val_main_v36 (F := F) x0 x2 x3 x4 x5) transposes_S16x8192x256_S16x256x8192_0_2_1
abbrev idx_main_v37 (i : S16x256x8192.Idx) : S16x8192x256.Idx := fun a => match a with
  | ⟨0, _⟩ => ⟨(i 0).val, (i 0).isLt⟩
  | ⟨1, _⟩ => ⟨(i 2).val, (i 2).isLt⟩
  | ⟨2, _⟩ => ⟨(i 1).val, (i 1).isLt⟩
theorem val_main_v37_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (x5 : (⟨S256x32x1, .f32⟩ : BufTy).Contents (Elt F)) (i : S16x256x8192.Idx) :
    val_main_v37 (F := F) x0 x2 x3 x4 x5 i = val_main_v36 (F := F) x0 x2 x3 x4 x5 (idx_main_v37 i) := by
  unfold val_main_v37
  generalize val_main_v36 (F := F) x0 x2 x3 x4 x5 = y
  exact transpose_apply [0, 2, 1] y transposes_S16x8192x256_S16x256x8192_0_2_1 i (idx_main_v37 i) (fun b => match b with
    | ⟨0, _⟩ => rfl
    | ⟨1, _⟩ => rfl
    | ⟨2, _⟩ => rfl)

-- %38 = stablehlo.broadcast_in_dim %arg6, dims = [1] : (tensor<256xf32>) -> tensor<1x256x1xf32>
def val_main_v38 (x6 : (⟨S256, .f32⟩ : BufTy).Contents (Elt F)) : (⟨S1x256x1, .f32⟩ : BufTy).Contents (Elt F) :=
  broadcastInDim S1x256x1 ![1] bcast_S256_S1x256x1_1 (x6)
abbrev idx_main_v38 (i : S1x256x1.Idx) : S256.Idx := fun a => match a with
  | ⟨0, _⟩ => ⟨(i 1).val, (i 1).isLt⟩
theorem val_main_v38_apply (x6 : (⟨S256, .f32⟩ : BufTy).Contents (Elt F)) (i : S1x256x1.Idx) :
    val_main_v38 (F := F) x6 i = x6 (idx_main_v38 i) := by
  unfold val_main_v38
  exact broadcastInDim_apply _ bcast_S256_S1x256x1_1 x6 i (idx_main_v38 i) (fun a => match a with
    | ⟨0, _⟩ => by show (i 1).val = if (256 : Nat) = 1 then 0 else (i 1).val; rw [if_neg (by decide)])

-- %39 = stablehlo.broadcast_in_dim %38, dims = [0, 1, 2] : (tensor<1x256x1xf32>) -> tensor<16x256x8192xf32>
def val_main_v39 (x6 : (⟨S256, .f32⟩ : BufTy).Contents (Elt F)) : (⟨S16x256x8192, .f32⟩ : BufTy).Contents (Elt F) :=
  broadcastInDim S16x256x8192 ![0, 1, 2] bcast_S1x256x1_S16x256x8192_0_1_2 (val_main_v38 (F := F) x6)
abbrev idx_main_v39 (i : S16x256x8192.Idx) : S1x256x1.Idx := fun a => match a with
  | ⟨0, _⟩ => ⟨0, Nat.one_pos⟩
  | ⟨1, _⟩ => ⟨(i 1).val, (i 1).isLt⟩
  | ⟨2, _⟩ => ⟨0, Nat.one_pos⟩
theorem val_main_v39_apply (x6 : (⟨S256, .f32⟩ : BufTy).Contents (Elt F)) (i : S16x256x8192.Idx) :
    val_main_v39 (F := F) x6 i = val_main_v38 (F := F) x6 (idx_main_v39 i) := by
  unfold val_main_v39
  generalize val_main_v38 (F := F) x6 = y
  exact broadcastInDim_apply _ bcast_S1x256x1_S16x256x8192_0_1_2 y i (idx_main_v39 i) (fun a => match a with
    | ⟨0, _⟩ => by show 0 = if (1 : Nat) = 1 then 0 else (i 0).val; rw [if_pos rfl]
    | ⟨1, _⟩ => by show (i 1).val = if (256 : Nat) = 1 then 0 else (i 1).val; rw [if_neg (by decide)]
    | ⟨2, _⟩ => by show 0 = if (1 : Nat) = 1 then 0 else (i 2).val; rw [if_pos rfl])

-- %40 = stablehlo.add %37, %39 : tensor<16x256x8192xf32>
def val_main_v40 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (x5 : (⟨S256x32x1, .f32⟩ : BufTy).Contents (Elt F)) (x6 : (⟨S256, .f32⟩ : BufTy).Contents (Elt F)) : (⟨S16x256x8192, .f32⟩ : BufTy).Contents (Elt F) :=
  addf (val_main_v37 (F := F) x0 x2 x3 x4 x5) (val_main_v39 (F := F) x6)
theorem val_main_v40_apply (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (x5 : (⟨S256x32x1, .f32⟩ : BufTy).Contents (Elt F)) (x6 : (⟨S256, .f32⟩ : BufTy).Contents (Elt F)) (i : S16x256x8192.Idx) :
    val_main_v40 (F := F) x0 x2 x3 x4 x5 x6 i = FloatOps.addf (val_main_v37 (F := F) x0 x2 x3 x4 x5 i) (val_main_v39 (F := F) x6 i) := rfl

-- %41 = stablehlo.broadcast_in_dim %arg1, dims = [0, 1, 2] : (tensor<16x1x8192xf32>) -> tensor<16x256x8192xf32>
def val_main_v41 (x1 : (⟨S16x1x8192, .f32⟩ : BufTy).Contents (Elt F)) : (⟨S16x256x8192, .f32⟩ : BufTy).Contents (Elt F) :=
  broadcastInDim S16x256x8192 ![0, 1, 2] bcast_S16x1x8192_S16x256x8192_0_1_2 (x1)
abbrev idx_main_v41 (i : S16x256x8192.Idx) : S16x1x8192.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v41_apply (x1 : (⟨S16x1x8192, .f32⟩ : BufTy).Contents (Elt F)) (i : S16x256x8192.Idx) :
    val_main_v41 (F := F) x1 i = x1 (idx_main_v41 i) := by
  unfold val_main_v41
  exact broadcastInDim_apply _ bcast_S16x1x8192_S16x256x8192_0_1_2 x1 i (idx_main_v41 i) (fun a => match a with
    | ⟨0, _⟩ => by show (i 0).val = if (16 : Nat) = 1 then 0 else (i 0).val; rw [if_neg (by decide)]
    | ⟨1, _⟩ => by show 0 = if (1 : Nat) = 1 then 0 else (i 1).val; rw [if_pos rfl]
    | ⟨2, _⟩ => by show (i 2).val = if (8192 : Nat) = 1 then 0 else (i 2).val; rw [if_neg (by decide)])

-- %42 = stablehlo.multiply %40, %41 : tensor<16x256x8192xf32>
def val_main_v42 (x0 : (⟨S16x256x8192, .f32⟩ : BufTy).Contents (Elt F)) (x1 : (⟨S16x1x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (x5 : (⟨S256x32x1, .f32⟩ : BufTy).Contents (Elt F)) (x6 : (⟨S256, .f32⟩ : BufTy).Contents (Elt F)) : (⟨S16x256x8192, .f32⟩ : BufTy).Contents (Elt F) :=
  mulf (val_main_v40 (F := F) x0 x2 x3 x4 x5 x6) (val_main_v41 (F := F) x1)
theorem val_main_v42_apply (x0 : (⟨S16x256x8192, .f32⟩ : BufTy).Contents (Elt F)) (x1 : (⟨S16x1x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) (x5 : (⟨S256x32x1, .f32⟩ : BufTy).Contents (Elt F)) (x6 : (⟨S256, .f32⟩ : BufTy).Contents (Elt F)) (i : S16x256x8192.Idx) :
    val_main_v42 (F := F) x0 x1 x2 x3 x4 x5 x6 i = FloatOps.mulf (val_main_v40 (F := F) x0 x2 x3 x4 x5 x6 i) (val_main_v41 (F := F) x1 i) := rfl

-- %43 = stablehlo.reshape %29 : (tensor<f32>) -> tensor<1x1xf32>
def val_main_v43 (x0 : (⟨S16x256x8192, .f32⟩ : BufTy).Contents (Elt F)) (x2 : (⟨S32x256x2, .f32⟩ : BufTy).Contents (Elt F)) (x3 : (⟨S32, .f32⟩ : BufTy).Contents (Elt F)) (x4 : (⟨S512x32, .f32⟩ : BufTy).Contents (Elt F)) : (⟨S1x1, .f32⟩ : BufTy).Contents (Elt F) :=
  shapeCast _ (val_main_v29 (F := F) x0 x2 x3 x4) shapeCasts_S_S1x1

/-- The term the Run module names `res_main_v42` is the stage. -/
theorem val_main_v42_eq (m : (ℓ : Loc nD τ sig) → Buf (Elt F) ℓ) (c : Dev nD) :
    Cert.RefRun.res_main_v42 m c = val_main_v42 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Cert.RefRun.res_main_v42; rfl

/-- The term the Run module names `res_main_v43` is the stage. -/
theorem val_main_v43_eq (m : (ℓ : Loc nD τ sig) → Buf (Elt F) ℓ) (c : Dev nD) :
    Cert.RefRun.res_main_v43 m c = val_main_v43 (F := F) (m ((c.tc : Thread nD τ).loc main_arg0)) (m ((c.tc : Thread nD τ).loc main_arg2)) (m ((c.tc : Thread nD τ).loc main_arg3)) (m ((c.tc : Thread nD τ).loc main_arg4)) := by
  unfold Cert.RefRun.res_main_v43; rfl

end Cert.RefRead

end
-- ==== Proof.Spec.lean ====
/-
The mathematics both programs compute, over the real numbers: the latents, the distances to the codes, the squared
differences; and the lemmas that carry sums of reals into the extended reals.
-/
module

public import Idealize.ShloMosaic.PureOps.Ideal.Laws

@[expose] public section

noncomputable section

namespace Cert.Spec

open scoped BigOperators

/-- An extended real is finite when it is a real number. -/
def IsReal (a : EReal) : Prop := ∃ r : ℝ, a = r

/-- A finite sum of reals, carried into the extended reals, is the sum of the carried terms. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The first lane of a pair. -/
def ev (t : Fin 4096) : Fin 8192 := ⟨2 * t.val, by omega⟩

/-- The second lane of a pair. -/
def od (t : Fin 4096) : Fin 8192 := ⟨2 * t.val + 1, by omega⟩

variable (xr : Fin 16 → Fin 256 → Fin 8192 → ℝ) (wr : Fin 32 → Fin 256 → Fin 2 → ℝ) (br : Fin 32 → ℝ) (cr : Fin 512 → Fin 32 → ℝ)

/-- The latent of batch `b` at position `t`: a convolution with two taps and stride two. -/
def z (b : Fin 16) (t : Fin 4096) (d : Fin 32) : ℝ :=
  (∑ c : Fin 256, wr d c 0 * xr b c (ev t)) + (∑ c : Fin 256, wr d c 1 * xr b c (od t)) + br d

/-- The kernel's distance of a latent `v` to code `k`: the latent's own square is left out. -/
def kd (v : Fin 32 → ℝ) (k : Fin 512) : ℝ := (∑ d : Fin 32, (-2 * cr k d) * v d) + ∑ d : Fin 32, cr k d * cr k d

/-- The reference's distance of a latent `v` to code `k`. -/
def rd (v : Fin 32 → ℝ) (k : Fin 512) : ℝ :=
  (∑ d : Fin 32, v d * v d) - 2 * (∑ d : Fin 32, v d * cr k d) + ∑ d : Fin 32, cr k d * cr k d

/-- The two distances differ by the latent's own square. -/
theorem rd_eq (v : Fin 32 → ℝ) (k : Fin 512) : rd cr v k = kd cr v k + ∑ d : Fin 32, v d * v d := by
  unfold rd kd
  rw [Finset.mul_sum]
  have : ∑ d : Fin 32, (-2 * cr k d) * v d = - ∑ d : Fin 32, 2 * (v d * cr k d) := by
    rw [← Finset.sum_neg_distrib]
    exact Finset.sum_congr rfl fun d _ => by ring
  rw [this]; ring

/-- The squared difference of code `k` and a latent. -/
def sqd (v : Fin 32 → ℝ) (k : Fin 512) : ℝ := ∑ d : Fin 32, (cr k d - v d) * (cr k d - v d)

/-- `K` is the one nearest code of every latent. -/
def Nearest (K : Fin 16 → Fin 4096 → Fin 512) : Prop :=
  ∀ b t k, k ≠ K b t → rd cr (z xr wr br b t) (K b t) < rd cr (z xr wr br b t) k

/-- The same with the kernel's distance. -/
theorem Nearest.kd_lt {xr wr br cr} {K : Fin 16 → Fin 4096 → Fin 512} (h : Nearest xr wr br cr K) (b : Fin 16) (t : Fin 4096)
    (k : Fin 512) (hk : k ≠ K b t) : kd cr (z xr wr br b t) (K b t) < kd cr (z xr wr br b t) k := by
  have := h b t k hk
  rw [rd_eq, rd_eq] at this
  linarith

/-- Position `t` of half `h`. -/
def pos (h : Fin 2) (t : Fin 2048) : Fin 4096 := ⟨2048 * h.val + t.val, by omega⟩

/-- Lane `l` of half `h`. -/
def lane (h : Fin 2) (l : Fin 4096) : Fin 8192 := ⟨4096 * h.val + l.val, by omega⟩

/-- A sum over the positions is the sum over the two halves. -/
theorem sum_pos (f : Fin 4096 → ℝ) : ∑ t : Fin 4096, f t = (∑ t : Fin 2048, f (pos 0 t)) + ∑ t : Fin 2048, f (pos 1 t) := by
  have e := Fin.sum_univ_add (a := 2048) (b := 2048) f
  refine e.trans ?_
  refine congrArg₂ (· + ·) (Finset.sum_congr rfl fun t _ => congrArg f (Fin.ext ?_)) (Finset.sum_congr rfl fun t _ => congrArg f (Fin.ext ?_))
  · simp [pos]
  · simp [pos]
    omega

/-- The loss: the mean of the squared differences. -/
def loss (K : Fin 16 → Fin 4096 → Fin 512) : ℝ :=
  (∑ b : Fin 16, ∑ t : Fin 4096, sqd cr (z xr wr br b t) (K b t)) / 2097152

end Cert.Spec
-- ==== Proof.Ref.Latent.lean ====
/-
The reference's latents and distances with finite arguments: the mathematics of `Spec.lean`.
-/
module

public import proofs.«01_k».proof.Proof.Spec
public import proofs.«01_k».proof.Proof.Ref.Read
public import Idealize.ShloMosaic.Lib.TwoAxisContraction

@[expose] public section

noncomputable section

namespace Cert.RefRead

open Cert.ReferenceIdeal Cert.ReferenceIdeal.Gen Idealize.ShloMosaic Idealize.ShloMosaic.ValueIdx Cert.Spec
open scoped BigOperators

/-- The row of batch `b` and position `t`. -/
def row (b : Fin 16) (t : Fin 4096) : Fin 65536 := ⟨b.val * 4096 + t.val, by omega⟩

/-- `x` with its lanes in pairs. -/
theorem v0_at (x : Vec Ideal S16x256x8192 .f32) (b : Fin 16) (c : Fin 256) (t : Fin 4096) (k : Fin 2) :
    val_main_v0 (F := Ideal) x (ix4 b c t k) = x (ix3 b c (⟨2 * t.val + k.val, by omega⟩ : Fin 8192)) := by
  rw [val_main_v0_apply]
  refine congrArg x (funext fun a => Fin.ext ?_)
  match a with
  | ⟨0, _⟩ => show (((b.val * 256 + c.val) * 4096 + t.val) * 2 + k.val) / 2097152 = b.val; omega
  | ⟨1, _⟩ => show (((b.val * 256 + c.val) * 4096 + t.val) * 2 + k.val) / 8192 % 256 = c.val; omega
  | ⟨2, _⟩ => show (((b.val * 256 + c.val) * 4096 + t.val) * 2 + k.val) % 8192 = 2 * t.val + k.val; omega

/-- The convolution, as a product contracting channels and taps. -/
theorem dot_at (y : FVec Ideal S16x256x4096x2 .f32) (w : FVec Ideal S32x256x2 .f32) (b : Fin 16) (t : Fin 4096) (d : Fin 32) :
    Host.dotGeneral (F := Ideal) (φ₁ := .f32) (φ₂ := .f32) dot_S16x256x4096x2_S32x256x2_S16x4096x32_13_12_02_0_n_n none y w (ix3 b t d)
      = ∑ c : Fin 256, ∑ k : Fin 2, y (ix4 b c t k) * w (ix3 d c k) := by
  let D := dot_S16x256x4096x2_S32x256x2_S16x4096x32_13_12_02_0_n_n
  have hr : D.contr.rank = 2 := rfl
  have c0 : D.contr.size ⟨0, by rw [hr]; omega⟩ = 256 := rfl
  have c1 : D.contr.size ⟨1, by rw [hr]; omega⟩ = 2 := rfl
  simp only [Host.dotGeneral]
  rw [Ideal.dotGeneral_apply, sum_contr2 D 256 2 hr c0 c1]
  refine Finset.sum_congr rfl fun c _ => Finset.sum_congr rfl fun k _ => ?_
  have h0 := contrEquiv2_symm_val0 D 256 2 hr c0 c1 (c, k)
  have h1 := contrEquiv2_symm_val1 D 256 2 hr c0 c1 (c, k)
  have el : D.lhsIdx (ix3 b t d) ((contrEquiv2 D 256 2 hr c0 c1).symm (c, k)) = ix4 b c t k := by
    funext a; apply Fin.ext
    match a with
    | ⟨0, _⟩ => rfl
    | ⟨1, _⟩ => exact h0
    | ⟨2, _⟩ => rfl
    | ⟨3, _⟩ => exact h1
  have er : D.rhsIdx (ix3 b t d) ((contrEquiv2 D 256 2 hr c0 c1).symm (c, k)) = ix3 d c k := by
    funext a; apply Fin.ext
    match a with
    | ⟨0, _⟩ => rfl
    | ⟨1, _⟩ => exact h0
    | ⟨2, _⟩ => exact h1
  rw [el, er]

section Real

variable {xr : Fin 16 → Fin 256 → Fin 8192 → ℝ} {wr : Fin 32 → Fin 256 → Fin 2 → ℝ} {br : Fin 32 → ℝ} {cr : Fin 512 → Fin 32 → ℝ}
  (x : Vec Ideal S16x256x8192 .f32) (w : Vec Ideal S32x256x2 .f32) (bi : Vec Ideal S32 .f32) (cb : Vec Ideal S512x32 .f32)
  (hx : ∀ b c l, x (ix3 b c l) = (xr b c l : EReal))
  (hw : ∀ d c k, w (ix3 d c k) = (wr d c k : EReal)) (hb : ∀ d, bi (ix1 d) = (br d : EReal))
  (hc : ∀ k d, cb (ix2 k d) = (cr k d : EReal))

include hx hw hb in
/-- The latents, laid `[16, 4096, 32]`. -/
theorem v6_at (b : Fin 16) (t : Fin 4096) (d : Fin 32) :
    val_main_v6 (F := Ideal) x w bi (ix3 b t d) = (z xr wr br b t d : EReal) := by
  rw [val_main_v6_apply, show idx_main_v6 (ix3 b t d) = ix3 b d t from funext fun a => match a with | ⟨0, _⟩ => rfl | ⟨1, _⟩ => rfl | ⟨2, _⟩ => rfl,
    val_main_v5_apply, val_main_v2_apply,
    show idx_main_v2 (ix3 b d t) = ix3 b t d from funext fun a => match a with | ⟨0, _⟩ => rfl | ⟨1, _⟩ => rfl | ⟨2, _⟩ => rfl,
    val_main_v4_apply, val_main_v3_apply,
    show idx_main_v3 (idx_main_v4 (ix3 b d t)) = ix1 d from funext fun a => match a with | ⟨0, _⟩ => rfl, hb]
  unfold val_main_v1 z
  rw [dot_at, EReal.coe_add, EReal.coe_add, coe_sum, coe_sum, ← Finset.sum_add_distrib]
  refine congrArg (· + (br d : EReal)) (Finset.sum_congr rfl fun c _ => ?_)
  rw [Fin.sum_univ_two, v0_at, v0_at, hx, hx, hw, hw, EReal.coe_mul, EReal.coe_mul, mul_comm (xr _ _ _ : EReal), mul_comm (xr _ _ _ : EReal)]
  rfl

include hx hw hb in
/-- The latents, one row each. -/
theorem v7_at (b : Fin 16) (t : Fin 4096) (d : Fin 32) :
    val_main_v7 (F := Ideal) x w bi (ix2 (row b t) d) = (z xr wr br b t d : EReal) := by
  rw [val_main_v7_apply, show idx_main_v7 (ix2 (row b t) d) = ix3 b t d from funext fun a => Fin.ext (by
    match a with
    | ⟨0, _⟩ => show ((b.val * 4096 + t.val) * 32 + d.val) / 131072 = b.val; omega
    | ⟨1, _⟩ => show ((b.val * 4096 + t.val) * 32 + d.val) / 32 % 4096 = t.val; omega
    | ⟨2, _⟩ => show ((b.val * 4096 + t.val) * 32 + d.val) % 32 = d.val; omega)]
  exact v6_at x w bi hx hw hb b t d

/-- The word of two. -/
theorem ofBits_two : Ideal.ofBits .f32 0x40000000#32 = ((2 : ℝ) : EReal) := by
  simp [Ideal.ofBits, Ideal.ieee, -EReal.coe_mul]
  norm_num

include hc in
/-- The squares of the codes. -/
theorem v18_at (k : Fin 512) : val_main_v18 (F := Ideal) cb (ix1 k) = ((∑ d : Fin 32, cr k d * cr k d : ℝ) : EReal) := by
  rw [val_main_v18_apply, val_main_cst_1_apply, coe_sum]
  refine (congrArg (· + _) Ideal.ofBits_zero_f32).trans ((zero_add _).trans (Finset.sum_congr rfl fun d _ => ?_))
  rw [val_main_v17_apply, show idx_main_v18 (ix1 k) d = ix2 k d from funext fun a => match a with | ⟨0, _⟩ => rfl | ⟨1, _⟩ => rfl, hc]
  exact (EReal.coe_mul _ _).symm

include hx hw hb in
/-- The squares of the latents. -/
theorem v9_at (b : Fin 16) (t : Fin 4096) :
    val_main_v9 (F := Ideal) x w bi (ix1 (row b t)) = ((∑ d : Fin 32, z xr wr br b t d * z xr wr br b t d : ℝ) : EReal) := by
  rw [val_main_v9_apply, val_main_cst_apply, coe_sum]
  refine (congrArg (· + _) Ideal.ofBits_zero_f32).trans ((zero_add _).trans (Finset.sum_congr rfl fun d _ => ?_))
  rw [val_main_v8_apply, show idx_main_v9 (ix1 (row b t)) d = ix2 (row b t) d from funext fun a => match a with | ⟨0, _⟩ => rfl | ⟨1, _⟩ => rfl,
    v7_at x w bi hx hw hb]
  exact (EReal.coe_mul _ _).symm

include hx hw hb hc in
/-- The products of latents and codes. -/
theorem v12_at (b : Fin 16) (t : Fin 4096) (k : Fin 512) :
    val_main_v12 (F := Ideal) x w bi cb (ix2 (row b t) k) = ((∑ d : Fin 32, z xr wr br b t d * cr k d : ℝ) : EReal) := by
  rw [val_main_v12_apply, coe_sum]
  refine Finset.sum_congr rfl fun d _ => ?_
  rw [show lidx_main_v12 (ix2 (row b t) k) d = ix2 (row b t) d from funext fun a => match a with | ⟨0, _⟩ => rfl | ⟨1, _⟩ => rfl,
    v7_at x w bi hx hw hb, val_main_v11_apply,
    show idx_main_v11 (ridx_main_v12 (ix2 (row b t) k) d) = ix2 k d from funext fun a => match a with | ⟨0, _⟩ => rfl | ⟨1, _⟩ => rfl, hc]
  exact (EReal.coe_mul _ _).symm

include hx hw hb hc in
/-- The distances. -/
theorem v21_at (b : Fin 16) (t : Fin 4096) (k : Fin 512) :
    val_main_v21 (F := Ideal) x w bi cb (ix2 (row b t) k) = (rd cr (z xr wr br b t) k : EReal) := by
  have e1 : val_main_v15 (F := Ideal) x w bi (ix2 (row b t) k) = ((∑ d : Fin 32, z xr wr br b t d * z xr wr br b t d : ℝ) : EReal) := by
    rw [val_main_v15_apply, val_main_v10_apply,
      show idx_main_v10 (idx_main_v15 (ix2 (row b t) k)) = ix1 (row b t) from funext fun a => match a with | ⟨0, _⟩ => rfl]
    exact v9_at x w bi hx hw hb b t
  have e2 : val_main_v14 (F := Ideal) x w bi cb (ix2 (row b t) k) = ((2 * ∑ d : Fin 32, z xr wr br b t d * cr k d : ℝ) : EReal) := by
    rw [val_main_v14_apply, val_main_v13_apply, val_main_cst_0_apply, v12_at x w bi cb hx hw hb hc, EReal.coe_mul]
    exact congrArg (· * _) ofBits_two
  have e3 : val_main_v20 (F := Ideal) cb (ix2 (row b t) k) = ((∑ d : Fin 32, cr k d * cr k d : ℝ) : EReal) := by
    rw [val_main_v20_apply, val_main_v19_apply,
      show idx_main_v19 (idx_main_v20 (ix2 (row b t) k)) = ix1 k from funext fun a => match a with | ⟨0, _⟩ => rfl]
    exact v18_at cb hc k
  rw [val_main_v21_apply, val_main_v16_apply, e1, e2, e3]
  unfold rd
  rw [EReal.coe_add, EReal.coe_sub]
  rfl

end Real

end Cert.RefRead
-- ==== Proof.Pre.lean ====
/-
What the precondition says: the arrays that reach the distances are finite, and every latent has one nearest code.
-/
module

public import proofs.«01_k».proof.Proof.Spec
public import proofs.«01_k».proof.Proof.Ref.Latent
public import proofs.«01_k».proof.Proof.Gen.Pre_one_nearest
public import Idealize.ShloMosaic.Lib.ReduceAll
public import Idealize.ShloMosaic.Lib.ValueIdx

@[expose] public section

noncomputable section

namespace Cert.PreRead

open Cert.Pre_one_nearest Cert.Pre_one_nearest.Gen Idealize.ShloMosaic Idealize.ShloMosaic.ValueIdx Cert.Spec
open scoped BigOperators

/-! ## Finiteness -/

/-- An absolute value below the infinity is that of a real. -/
theorem isReal_of_abs (a : EReal) (h : max a (-a) < ⊤) : IsReal a := by
  have h1 : a ≠ ⊤ := fun e => by rw [e] at h; simp at h
  have h2 : a ≠ ⊥ := fun e => by rw [e] at h; simp at h
  exact ⟨a.toReal, (EReal.coe_toReal h1 h2).symm⟩

/-- The word of the infinity. -/
theorem ofBits_inf : Ideal.ofBits .f32 0x7F800000#32 = (⊤ : EReal) := by
  simp [Ideal.ofBits, Ideal.ieee]

/-- A comparison of the absolute value to the infinity that came out 1 is of a real. -/
theorem isReal_of_cmp {s : Shape} (a : FVec Ideal s .f32) (h : S_.BroadcastsInDim s (![] : Fin 0 → Fin s.rank)) (i : s.Idx)
    (e : cmpf .olt (Host.absf a) (broadcastInDim s ![] h (constant (F := Ideal) S_ .f32 0x7F800000#32)) i = 1#1) : IsReal (a i) := by
  have hb : broadcastInDim s ![] h (constant (F := Ideal) S_ .f32 0x7F800000#32) i = Ideal.ofBits .f32 0x7F800000#32 := rfl
  have e' : BitVec.ofBool (decide (max (a i : EReal) (-(a i : EReal)) < Ideal.ofBits .f32 0x7F800000#32)) = 1#1 := by
    rw [← hb]; exact e
  rw [ofBits_inf] at e'
  refine isReal_of_abs _ ?_
  by_contra hn
  rw [decide_eq_false hn] at e'
  exact absurd e' (by decide)

/-! ## One nearest code -/

/-- A count of at most `n < 2 ^ 32` flags, in 32-bit words. -/
theorem fold_count {ι : Type} [DecidableEq ι] (p : ι → Prop) [DecidablePred p] (s : Finset ι) (hs : s.card < 2 ^ 32) :
    (s.fold IntOp.addi 0#32 (fun i => if p i then 1#32 else 0#32)).toNat = (s.filter p).card := by
  induction s using Finset.induction_on with
  | empty => rfl
  | insert a s ha ih =>
    rw [Finset.card_insert_of_notMem ha] at hs
    have ih' := ih (by omega)
    have hle := Finset.card_filter_le s p
    rw [Finset.fold_insert ha, Finset.filter_insert]
    by_cases hp : p a
    · rw [if_pos hp, if_pos hp, Finset.card_insert_of_notMem (fun h => ha (Finset.mem_filter.mp h).1)]
      show (1#32 + _).toNat = _
      rw [BitVec.toNat_add, ih']
      show (1 + _) % 2 ^ 32 = _
      rw [Nat.mod_eq_of_lt (by omega)]; omega
    · rw [if_neg hp, if_neg hp]
      show (0#32 + _).toNat = _
      rw [BitVec.zero_add, ih']

/-- The minimum of a row is below every entry. -/
theorem fold_min_le {n : ℕ} (f : Fin n → EReal) (k : Fin n) : (Finset.univ : Finset (Fin n)).fold min (⊤ : EReal) f ≤ f k :=
  (Finset.le_fold_min (b := (⊤ : EReal)) (f := f) (s := Finset.univ) _).mp le_rfl |>.2 k (Finset.mem_univ k)

/-- A row whose minimum is met once has one entry below every other. -/
theorem one_min (f : Fin 512 → EReal)
    (h : (Finset.univ : Finset (Fin 512)).fold IntOp.addi 0#32
      (fun k => if f k = (Finset.univ : Finset (Fin 512)).fold min (⊤ : EReal) f then 1#32 else 0#32) = 1#32) :
    ∃ K, ∀ k, k ≠ K → f K < f k := by
  have e := fold_count (fun k => f k = (Finset.univ : Finset (Fin 512)).fold min (⊤ : EReal) f) Finset.univ (by simp)
  rw [h] at e
  obtain ⟨K, hK⟩ := Finset.card_eq_one.mp e.symm
  have hm : ∀ k, f k = (Finset.univ : Finset (Fin 512)).fold min (⊤ : EReal) f ↔ k = K := fun k => by
    have : k ∈ Finset.univ.filter (fun k => f k = (Finset.univ : Finset (Fin 512)).fold min (⊤ : EReal) f) ↔ k ∈ ({K} : Finset (Fin 512)) := by
      rw [hK]
    simpa using this
  refine ⟨K, fun k hk => ?_⟩
  rw [(hm K).mpr rfl]
  exact lt_of_le_of_ne (fold_min_le f k) fun e => hk ((hm k).mp e.symm)

/-- The row of a two-axis index with one coordinate given. -/
theorem lift_row (r : Fin 65536) (hR : S65536x512.Reduces [1] S65536) (k : Fin 512) : hR.lift (ix1 r) k = ix2 r k :=
  funext fun a => Fin.ext (by match a with | ⟨0, _⟩ => rfl | ⟨1, _⟩ => rfl)

/-- A row of the distances that passes the count has one entry below every other. -/
theorem one_row (v : FVec Ideal S65536x512 .f32) (r : Fin 65536)
    (h : Host.reduce IntOp.addi (extui 32 (cmpf .oeq v (broadcastInDim S65536x512 ![0, 1] bcast_S65536x1_S65536x512_0_1
        (broadcastInDim S65536x1 ![0] bcast_S65536_S65536x1_0
          (Host.reduce FloatOps.minimumf v (constant (F := Ideal) S_ .f32 0x7F800000#32) reducesTo_S65536x512_S65536_d1 h_S_)))) natLt_1_32)
      (constantI S_ 32 0#32) reducesTo_S65536x512_S65536_d1 h_S_ (ix1 r) = 1#32) :
    ∃ K : Fin 512, ∀ k, k ≠ K → (v (ix2 r K) : EReal) < v (ix2 r k) := by
  have hR : S65536x512.Reduces [1] S65536 := by decide
  have hmin : Host.reduce (FloatOps.minimumf (F := Ideal) (φ := .f32)) v (constant (F := Ideal) S_ .f32 0x7F800000#32) reducesTo_S65536x512_S65536_d1 h_S_ (ix1 r)
      = (Finset.univ : Finset (Fin 512)).fold min (⊤ : EReal) (fun k => v (ix2 r k)) := by
    refine (Host.reduce_eq_fold_single (min : EReal → EReal → EReal) v _ reducesTo_S65536x512_S65536_d1 hR h_S_ (ix1 r)).trans ?_
    refine Eq.trans (congrArg (fun u : EReal => Finset.fold min u _ _) ofBits_inf) ?_
    exact congrArg (fun g : Fin 512 → EReal => Finset.fold min (⊤ : EReal) g Finset.univ) (funext fun k => congrArg v (lift_row r hR k))
  refine one_min (fun k => v (ix2 r k)) ?_
  rw [Host.reduce_eq_fold_single IntOp.addi _ _ reducesTo_S65536x512_S65536_d1 hR h_S_ (ix1 r)] at h
  refine Eq.trans ?_ h
  refine congrArg (fun g : Fin 512 → BitVec 32 => Finset.fold IntOp.addi 0#32 g Finset.univ) (funext fun k => ?_)
  have hbk : broadcastInDim S65536x512 ![0, 1] bcast_S65536x1_S65536x512_0_1
        (broadcastInDim S65536x1 ![0] bcast_S65536_S65536x1_0
          (Host.reduce FloatOps.minimumf v (constant (F := Ideal) S_ .f32 0x7F800000#32) reducesTo_S65536x512_S65536_d1 h_S_)) (ix2 r k)
      = (Finset.univ : Finset (Fin 512)).fold min (⊤ : EReal) (fun k => v (ix2 r k)) := by
    refine (broadcastInDim_apply _ bcast_S65536x1_S65536x512_0_1 _ _ (ix2 r (0 : Fin 1)) (fun a => match a with | ⟨0, _⟩ => rfl | ⟨1, _⟩ => rfl)).trans ?_
    exact (broadcastInDim_apply _ bcast_S65536_S65536x1_0 _ _ (ix1 r) (fun a => match a with | ⟨0, _⟩ => rfl)).trans hmin
  refine Eq.trans ?_ (congrArg (extui 32 (cmpf .oeq v _) natLt_1_32) (lift_row r hR k)).symm
  show _ = (BitVec.ofBool (decide ((v (ix2 r k) : EReal) = _))).zeroExtend 32
  rw [hbk]
  by_cases hp : (v (ix2 r k) : EReal) = (Finset.univ : Finset (Fin 512)).fold min (⊤ : EReal) (fun k => v (ix2 r k))
  · rw [if_pos hp, decide_eq_true hp]; rfl
  · rw [if_neg hp, decide_eq_false hp]; rfl

/-! ## The precondition -/

/-- A comparison for equality that came out 1 is of equal words. -/
theorem eq_of_cmpi (a b : BitVec 32) (h : IntOp.cmpi .eq a b = 1#1) : a = b := by
  by_contra hn
  have h' : BitVec.ofBool (a == b) = 1#1 := h
  rw [beq_eq_false_iff_ne.mpr hn] at h'
  exact absurd h' (by decide)

/-- The last stage of the precondition. -/
theorem part2 (cb : FVec Ideal S512x32 .f32) (v26 : IVec S65536x512 32) (v35 : IVec S_ 1) (v38 : IVec S32 1) (j : S65536.Idx)
    (h : fn_part2 (F := Ideal) cb v26 v35 v38 j = 1#1) :
    (∀ i, v35 i = 1#1) ∧ (∀ i, v38 i = 1#1) ∧ (∀ i, IsReal (cb i))
      ∧ Host.reduce IntOp.addi v26 (constantI S_ 32 0#32) reducesTo_S65536x512_S65536_d1 h_S_ j = 1#32 := by
  haveI : Subsingleton S_.Idx := ⟨fun a b => funext fun i => i.elim0⟩
  obtain ⟨ha, hb⟩ := IntOp.andi_eq_one.1 h
  obtain ⟨ha, h44⟩ := IntOp.andi_eq_one.1 ha
  obtain ⟨h35, h39⟩ := IntOp.andi_eq_one.1 ha
  refine ⟨fun i => (congrArg v35 (Subsingleton.elim _ _)).trans h35, fun i => Host.reduce_andi_all _ _ _ _ _ h39 i,
    fun i => isReal_of_cmp cb _ i (Host.reduce_andi_all _ _ _ _ _ h44 i), eq_of_cmpi _ (1#32) hb⟩

/-- The precondition at a row: the arrays are finite and the row's distances have one entry below every other. -/
theorem read (x : FVec Ideal S16x256x8192 .f32) (mk : FVec Ideal S16x1x8192 .f32) (w : FVec Ideal S32x256x2 .f32) (bi : FVec Ideal S32 .f32)
    (cb : FVec Ideal S512x32 .f32) (wo : FVec Ideal S256x32x1 .f32) (bo : FVec Ideal S256 .f32) (r : Fin 65536)
    (h : fn (F := Ideal) x mk w bi cb wo bo (ix1 r) = 1#1) :
    (∀ i, IsReal (x i)) ∧ (∀ i, IsReal (w i)) ∧ (∀ i, IsReal (bi i)) ∧ (∀ i, IsReal (cb i))
      ∧ ∃ K : Fin 512, ∀ k, k ≠ K → (Cert.RefRead.val_main_v21 (F := Ideal) x w bi cb (ix2 r K) : EReal)
          < Cert.RefRead.val_main_v21 (F := Ideal) x w bi cb (ix2 r k) := by
  haveI : Subsingleton S_.Idx := ⟨fun a b => funext fun i => i.elim0⟩
  obtain ⟨h35, h38, hc, h46⟩ := part2 _ _ _ _ _ h
  obtain ⟨h30, h34⟩ := IntOp.andi_eq_one.1 (h35 (Shape.Idx.first h_S_))
  exact ⟨fun i => isReal_of_cmp x _ i (Host.reduce_andi_all _ _ _ _ _ h30 i),
    fun i => isReal_of_cmp w _ i (Host.reduce_andi_all _ _ _ _ _ h34 i),
    fun i => isReal_of_cmp bi _ i (h38 i), hc, one_row _ r h46⟩

end Cert.PreRead
-- ==== Proof.K.Lat.lean ====
/-
The latents one grid point computes, read at an entry over the extended reals.
-/
module

public import proofs.«01_k».proof.Proof.Spec
public import proofs.«01_k».proof.Proof.K.Chunk
public import proofs.«01_k».proof.Proof.K.Host
public import Idealize.ShloMosaic.PureOps.Ideal.Laws
public import Idealize.ShloMosaic.Lib.MatmulPlain
public import Idealize.ShloMosaic.Lib.KernelVsHost
public import Idealize.ShloMosaic.Lib.ValueLayout
public import Idealize.ShloMosaic.Lib.ValueIdx
public import Idealize.ShloMosaic.Lib.Pipeline.Value

@[expose] public section

noncomputable section

namespace Cert.VQ

open Cert.KernelIdeal Cert.KernelIdeal.Gen Idealize.ShloMosaic Idealize.ShloMosaic.ValueIdx
open scoped BigOperators

/-- A product of two matrices from a zero accumulator is the sum over the contracted coordinate. -/
theorem mm {M K N : ℕ} {φ₁ φ₂ : FTy} (D : DotDims ⟨2, ![M, K]⟩ ⟨2, ![K, N]⟩ ⟨2, ![M, N]⟩) (hD : D = DotDims.plain M K N)
    (a : FVec Ideal ⟨2, ![M, K]⟩ φ₁) (b : FVec Ideal ⟨2, ![K, N]⟩ φ₂) (r : Fin M) (c : Fin N) :
    matmul D none a b (constant ⟨2, ![M, N]⟩ .f32 0x00000000#32) (ix2 r c) = ∑ k : Fin K, a (ix2 r k) * b (ix2 k c) := by
  subst hD
  refine (Ideal.matmul_plain_apply none a b _ r c).trans ?_
  rw [show (constant (⟨2, ![M, N]⟩ : Shape) .f32 0x00000000#32 : FVec Ideal _ _) (ix2 r c) = 0 from Ideal.ofBits_zero_f32, zero_add]

/-- One column broadcast over many lanes reads the column's entry of the row. -/
theorem bcol {a b : ℕ} {α : Type} (ha : a ≠ 1) (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ => exact (if_neg ha).symm
  | ⟨1, _⟩ => rfl

/-- The next lane, the first one after the last. -/
def nextLane (l : Fin 4096) : Fin 4096 := ⟨(l.val + 1) % 4096, Nat.mod_lt _ (by decide)⟩

/-- The rotation by 4095 of 4096 lanes reads the next lane. -/
theorem rot_apply (v : FVec Ideal S32x4096 .f32) (d : Fin 32) (l : Fin 4096) :
    dynamicRotate 1 4095#32 none v rotates_S32x4096_d1 (ix2 d l) = v (ix2 d (nextLane l)) := by
  refine dynamicRotate_apply 1 4095#32 v rotates_S32x4096_d1 (ix2 d l) (ix2 d (nextLane l)) fun b => ?_
  match b with
  | ⟨0, _⟩ => rfl
  | ⟨1, _⟩ =>
    refine Eq.trans ?_ (if_pos rfl).symm
    show (l.val + 1) % 4096 = (l.val + 4096 - (4095#32).toNat % 4096) % 4096
    rw [show (4095#32).toNat = 4095 from rfl]
    omega

/-- A matrix shape-cast to its own shape. -/
theorem cast_self {s : Shape} {α : Type} (v : s.Idx → α) (h : s.ShapeCasts s) : shapeCast s v h = v := shapeCast_self v h

/-- The convolution with stride one: both taps and the bias. -/
theorem pay4_apply (X : Vec Ideal S1x256x4096 .f32) (W : Vec Ideal S64x256 .f32) (Bi : Vec Ideal S32x1 .f32) (d : Fin 32) (l : Fin 4096) :
    k0_pay4 X W Bi (ix2 d l)
      = (∑ c : Fin 256, W (ix2 (⟨d.val, by omega⟩ : Fin 64) c) * X (ix3 (0 : Fin 1) c l)
          + ∑ c : Fin 256, W (ix2 (⟨32 + d.val, by omega⟩ : Fin 64) c) * X (ix3 (0 : Fin 1) c (nextLane l)))
        + Bi (ix2 d (0 : Fin 1)) := by
  unfold k0_pay4
  dsimp only
  rw [addf_apply, addf_apply, rot_apply]
  rw [extractStridedSlice_apply _ _ slices_S64x4096_o0_0_S32x4096 (ix2 d l) (ix2 (⟨d.val, by omega⟩ : Fin 64) l)
    (fun a => match a with | ⟨0, _⟩ => (Nat.zero_add _).symm | ⟨1, _⟩ => (Nat.zero_add _).symm)]
  rw [extractStridedSlice_apply _ _ slices_S64x4096_o32_0_S32x4096 (ix2 d (nextLane l)) (ix2 (⟨32 + d.val, by omega⟩ : Fin 64) (nextLane l))
    (fun a => match a with | ⟨0, _⟩ => rfl | ⟨1, _⟩ => (Nat.zero_add _).symm)]
  rw [mm dot_S64x256_S256x4096_S64x4096_1_0_0_1_n_n rfl, mm dot_S64x256_S256x4096_S64x4096_1_0_0_1_n_n rfl]
  have hb : ∀ v : FVec Ideal S32x1 .f32, broadcastTo S32x4096 v broadcasts_S32x1_S32x4096 (ix2 d l) = v (ix2 d (0 : Fin 1)) :=
    fun v => bcol (by decide) v _ d l
  rw [hb, cast_self, cast_self]
  simp only [shapeCast_1ab_ab_apply]

/-- The first of the three parts is the convolution itself. -/
theorem pay5_apply (X : Vec Ideal S1x256x4096 .f32) (W : Vec Ideal S64x256 .f32) (Bi : Vec Ideal S32x1 .f32) (j) :
    k0_pay5 X W Bi j = k0_pay4 X W Bi j := rfl

/-- The second part is what is left of the convolution after the first. -/
theorem pay7_apply (X : Vec Ideal S1x256x4096 .f32) (W : Vec Ideal S64x256 .f32) (Bi : Vec Ideal S32x1 .f32) (j) :
    k0_pay7 X W Bi j = ((k0_pay4 X W Bi j : EReal) - k0_pay4 X W Bi j : EReal) := rfl

/-- The third part is what is left of the second after itself. -/
theorem pay8_apply (X : Vec Ideal S1x256x4096 .f32) (W : Vec Ideal S64x256 .f32) (Bi : Vec Ideal S32x1 .f32) (j) :
    k0_pay8 X W Bi j = (((k0_pay4 X W Bi j : EReal) - k0_pay4 X W Bi j) - (k0_pay4 X W Bi j - k0_pay4 X W Bi j) : EReal) := rfl

/-- Two times a column number as a 32-bit word is the word of a row number just when it is that number. -/
theorem word_eq (s j : ℕ) (hs : s < 4294967296) (hj : 2 * j < 4294967296) :
    (BitVec.ofNat 32 s = 2#32 * BitVec.ofNat 32 j) ↔ s = 2 * j := by
  rw [← BitVec.toNat_inj]
  simp only [BitVec.toNat_mul, BitVec.toNat_ofNat]
  omega

/-- A flag as a number. -/
theorem flag_num (φ : FTy) (p : Prop) [Decidable p] :
    (FloatOps.uitofp φ (BitVec.ofBool (decide p)) : Ideal φ) = (if p then (1 : EReal) else 0) := by
  show ((((BitVec.ofBool (decide p)).toNat : ℝ)) : EReal) = _
  by_cases h : p
  · simp [h]
  · simp [h]

/-- The matrix that selects the even lanes. -/
theorem hE_apply (s : Fin 256) (j : Fin 128) : (hE : Vec Ideal S256x128 .bf16) (ix2 s j) = (if s.val = 2 * j.val then (1 : EReal) else 0) := by
  show FloatOps.uitofp .bf16 (BitVec.ofBool (decide (BitVec.ofNat 32 s.val = 2#32 * BitVec.ofNat 32 j.val))) = _
  rw [flag_num]
  simp only [word_eq s.val j.val (by omega) (by omega)]

/-- One of the three products of a piece. -/
theorem pick_apply (E : FVec Ideal S256x128 .bf16) (G : FVec Ideal S32x4096 .bf16) (k : Fin 16) (d : Fin 32) (j : Fin 128) :
    matmul dot_S32x256_S256x128_S32x128_1_0_0_1_n_n none (extractStridedSlice S32x256 ![0, 256 * k.val] G (slicesE k)) E
        (constant S32x128 .f32 0x00000000#32) (ix2 d j)
      = ∑ s : Fin 256, G (ix2 d (⟨256 * k.val + s.val, by omega⟩ : Fin 4096)) * E (ix2 s j) := by
  rw [mm dot_S32x256_S256x128_S32x128_1_0_0_1_n_n rfl]
  refine Finset.sum_congr rfl fun s _ => congrArg (· * E (ix2 s j)) ?_
  exact extractStridedSlice_apply _ _ (slicesE k) (ix2 d s) (ix2 d (⟨256 * k.val + s.val, by omega⟩ : Fin 4096))
    (fun a => match a with | ⟨0, _⟩ => (Nat.zero_add _).symm | ⟨1, _⟩ => rfl)

/-- The product with the selection matrix is the even lane. -/
theorem pick_even (G : FVec Ideal S32x4096 .bf16) (k : Fin 16) (d : Fin 32) (j : Fin 128) :
    (∑ s : Fin 256, G (ix2 d (⟨256 * k.val + s.val, by omega⟩ : Fin 4096)) * (hE : Vec Ideal S256x128 .bf16) (ix2 s j) : EReal)
      = G (ix2 d (⟨256 * k.val + 2 * j.val, by omega⟩ : Fin 4096)) := by
  rw [Finset.sum_eq_single (⟨2 * j.val, by omega⟩ : Fin 256)]
  · rw [hE_apply, if_pos rfl]
    exact mul_one _
  · intro s _ hs
    rw [hE_apply, if_neg (fun h => hs (Fin.ext h))]
    exact mul_zero _
  · intro h; exact absurd (Finset.mem_univ _) h

/-- The even lanes of the three-part sum: the sum of the parts at the even lane. -/
theorem evens_apply (G1 G2 G3 : FVec Ideal S32x4096 .bf16) (d : Fin 32) (t : Fin 2048) :
    evens (hE : Vec Ideal S256x128 .bf16) G1 G2 G3 (ix2 d t)
      = (G1 (ix2 d (⟨2 * t.val, by omega⟩ : Fin 4096)) + G2 (ix2 d (⟨2 * t.val, by omega⟩ : Fin 4096))
          + G3 (ix2 d (⟨2 * t.val, by omega⟩ : Fin 4096)) : EReal) := by
  unfold evens
  refine (concatenate_ofFn_apply 1 (fun k : Fin 16 => piece (hE : Vec Ideal S256x128 .bf16) G1 G2 G3 k)
    concatenates_S32x128_S32x128_S32x128_S32x128_S32x128_S32x128_S32x128_S32x128_S32x128_S32x128_S32x128_S32x128_S32x128_S32x128_S32x128_S32x128_S32x2048_d1
    rfl 128 rfl (ix2 d t)
    (⟨t.val / 128, by omega⟩ : Fin 16) rfl (ix2 d (⟨t.val % 128, Nat.mod_lt _ (by decide)⟩ : Fin 128)) rfl
    (fun a ha => match a with | ⟨0, _⟩ => rfl | ⟨1, _⟩ => absurd rfl ha)).trans ?_
  unfold piece
  rw [addf_apply, addf_apply, pick_apply, pick_apply, pick_apply, pick_even, pick_even, pick_even]
  have e : (⟨256 * (t.val / 128) + 2 * (t.val % 128), by omega⟩ : Fin 4096) = ⟨2 * t.val, by omega⟩ := Fin.ext (by
    show 256 * (t.val / 128) + 2 * (t.val % 128) = 2 * t.val
    omega)
  rw [e]

/-- The latents of one half are the convolution at the even lanes, when that is finite. -/
theorem lat_apply (X : Vec Ideal S1x256x4096 .f32) (W : Vec Ideal S64x256 .f32) (Bi : Vec Ideal S32x1 .f32) (d : Fin 32) (t : Fin 2048)
    (hf : Cert.Spec.IsReal (k0_pay4 X W Bi (ix2 d (⟨2 * t.val, by omega⟩ : Fin 4096)))) :
    lat (hE : Vec Ideal S256x128 .bf16) X W Bi (ix2 d t) = k0_pay4 X W Bi (ix2 d (⟨2 * t.val, by omega⟩ : Fin 4096)) := by
  unfold lat
  have h2 : k0_pay2 (hE (F := Ideal)) = hE (F := Ideal) := by
    unfold k0_pay2
    exact shapeCast_self _ _
  rw [h2, evens_apply, pay5_apply, pay7_apply, pay8_apply]
  obtain ⟨r, hr⟩ := hf
  rw [hr]
  rw [← EReal.coe_sub, ← EReal.coe_sub, sub_self, sub_self, EReal.coe_zero, add_zero, add_zero]

end Cert.VQ
-- ==== Proof.K.Codes.lean ====
/-
The distances, the choice of a code, the chosen codes, the doubled lanes and the output of one grid point, read at an
entry over the extended reals.
-/
module

public import proofs.«01_k».proof.Proof.K.Lat

@[expose] public section

noncomputable section

namespace Cert.VQ

open Cert.KernelIdeal Cert.KernelIdeal.Gen Idealize.ShloMosaic Idealize.ShloMosaic.ValueIdx
open scoped BigOperators

/-- The distance of latent `t` to code `k`, up to the latent's own square. -/
theorem dist_apply (A : Vec Ideal S512x32 .f32) (C : Vec Ideal S512x1 .f32) (z : FVec Ideal S32x2048 .f32) (k : Fin 512) (t : Fin 2048) :
    dist A C z (ix2 k t) = (∑ d : Fin 32, A (ix2 k d) * z (ix2 d t)) + C (ix2 k (0 : Fin 1)) := by
  have hb : ∀ v : FVec Ideal S512x1 .f32, broadcastTo S512x2048 v broadcasts_S512x1_S512x2048 (ix2 k t) = v (ix2 k (0 : Fin 1)) :=
    fun v => bcol (by decide) v _ k t
  unfold dist
  rw [addf_apply, mm dot_S512x32_S32x2048_S512x2048_1_0_0_1_n_n rfl, hb, cast_self, cast_self]

/-- The least entry of a column, when one entry is less than all others. -/
theorem fold_min_eq {n : ℕ} (f : Fin n → EReal) (K : Fin n) (h : ∀ k, f K ≤ f k) :
    (Finset.univ : Finset (Fin n)).fold min ⊤ f = f K := by
  apply le_antisymm
  · exact (Finset.fold_min_le (f K)).mpr (Or.inr ⟨K, Finset.mem_univ _, le_rfl⟩)
  · exact (Finset.le_fold_min (f K)).mpr ⟨le_top, fun k _ => h k⟩

/-- The word of positive infinity. -/
theorem ofBits_inf : (FloatOps.ofBits .f32 0x7F800000#32 : Ideal .f32) = (⊤ : EReal) := by
  show Ideal.ofBits .f32 0x7F800000#32 = ⊤
  simp [Ideal.ofBits, Ideal.ieee]

/-- The word of one. -/
theorem ofBits_one : (Scalar.ofBits .f32 0x3F800000#32 : Ideal .f32) = (1 : EReal) := by
  show Ideal.ofBits .f32 0x3F800000#32 = 1
  simp [Ideal.ofBits, Ideal.ieee, -EReal.coe_mul]
  norm_num

theorem ofBits_zero' : (Scalar.ofBits .f32 0x00000000#32 : Ideal .f32) = (0 : EReal) := Ideal.ofBits_zero_f32

/-- A column's minimum over the codes. -/
theorem colMin_apply (v : FVec Ideal S512x2048 .f32) (t : Fin 2048) :
    multiReduction .minimumf [0] S2048 v 0x7F800000#32 reduces_S512x2048_S2048 (.inl rfl) rfl (ix1 t)
      = (Finset.univ : Finset (Fin 512)).fold min (⊤ : EReal) (fun k => v (ix2 k t)) := by
  classical
  refine (multiReduction_minimumf_eq_fold v 0x7F800000#32 reduces_S512x2048_S2048 (.inl rfl) rfl (ix1 t)).trans ?_
  rw [Shape.Reduces.fold_filter_drop_single, ofBits_inf]
  have hl : ∀ k : Fin 512, (reduces_S512x2048_S2048 : S512x2048.Reduces [0] S2048).lift (ix1 t) k = ix2 k t := by
    intro k
    funext a
    apply Fin.ext
    match a with
    | ⟨0, _⟩ => rfl
    | ⟨1, _⟩ => rfl
  exact congrArg (fun f => (Finset.univ : Finset (Fin 512)).fold min (⊤ : EReal) f) (funext fun k => congrArg v (hl k))

/-- One at the nearest code and zero elsewhere, where one code is nearer than all others. -/
theorem hot_apply (v : FVec Ideal S512x2048 .f32) (t : Fin 2048) (K : Fin 512)
    (hK : ∀ k, k ≠ K → (v (ix2 K t) : EReal) < v (ix2 k t)) (k : Fin 512) :
    hot v (ix2 k t) = (if k = K then (1 : EReal) else 0) := by
  have hb : ∀ u : FVec Ideal S1x2048 .f32, broadcastTo S512x2048 u broadcasts_S1x2048_S512x2048 (ix2 k t) = u (ix2 (0 : Fin 1) t) :=
    fun u => broadcastTo_1b_ab_apply u _ k t
  have hm : (Finset.univ : Finset (Fin 512)).fold min (⊤ : EReal) (fun k => v (ix2 k t)) = v (ix2 K t) :=
    fold_min_eq (fun k => v (ix2 k t)) K fun k => by
      by_cases h : k = K
      · rw [h]
      · exact (hK k h).le
  unfold hot
  rw [select_apply, cmpf_apply, hb, shapeCast_a_1a_apply, colMin_apply, hm, broadcast_apply, broadcast_apply, ofBits_one, ofBits_zero']
  show Scalar.select (BitVec.ofBool (decide ((v (ix2 k t) : EReal) = v (ix2 K t)))) (1 : EReal) 0 = _
  by_cases h : k = K
  · subst h
    simp [Scalar.select]
  · have h1 : ¬ ((v (ix2 k t) : EReal) = v (ix2 K t)) := fun e => (hK k h).ne e.symm
    simp [h, h1, Scalar.select]

/-- The chosen code is the nearest one's column. -/
theorem codes_apply (Q : Vec Ideal S32x512 .f32) (h : FVec Ideal S512x2048 .f32) (t : Fin 2048) (K : Fin 512)
    (hh : ∀ k, h (ix2 k t) = (if k = K then (1 : EReal) else 0)) (d : Fin 32) :
    codes Q h (ix2 d t) = Q (ix2 d K) := by
  unfold codes
  rw [mm dot_S32x512_S512x2048_S32x2048_1_0_0_1_n_n rfl, cast_self, Finset.sum_eq_single K]
  · rw [hh, if_pos rfl]; exact mul_one _
  · intro k _ hk
    rw [hh, if_neg hk]; exact mul_zero _
  · intro h; exact absurd (Finset.mem_univ _) h

/-- The sign of a word. -/
def wordSign (x : BitVec 32) : BitVec 32 := if x = 0 then 0 else if x.msb then -1 else 1

/-- Half of a lane's number, as a word. -/
theorem halfLane_apply (s : Fin 256) (j : Fin 512) : halfLane (ix2 s j) = BitVec.ofNat 32 (j.val / 2) := by
  have h : ∀ j : Fin 512, Scalar.select (IntOp.andi
      (IntOp.cmpi .ne (wordSign (BitVec.ofNat 32 j.val)) (wordSign 2#32))
      (IntOp.cmpi .ne (IntOp.remsi .host (BitVec.ofNat 32 j.val) 2#32) 0#32))
      (IntOp.subi (IntOp.divsi .host (BitVec.ofNat 32 j.val) 2#32) 1#32)
      (IntOp.divsi .host (BitVec.ofNat 32 j.val) 2#32) = BitVec.ofNat 32 (j.val / 2) := by decide +kernel
  exact h j

/-- The matrix that doubles the lanes. -/
theorem hD_apply (s : Fin 256) (j : Fin 512) : (hD : Vec Ideal S256x512 .bf16) (ix2 s j) = (if s.val = j.val / 2 then (1 : EReal) else 0) := by
  show FloatOps.uitofp .bf16 (BitVec.ofBool (decide (BitVec.ofNat 32 s.val = halfLane (ix2 s j)))) = _
  rw [flag_num, halfLane_apply]
  have e : (BitVec.ofNat 32 s.val = BitVec.ofNat 32 (j.val / 2)) ↔ s.val = j.val / 2 := by
    rw [← BitVec.toNat_inj]
    simp only [BitVec.toNat_ofNat]
    omega
  simp only [e]

/-- The codes with every lane doubled. -/
theorem doubled_apply (q : FVec Ideal S32x2048 .bf16) (d : Fin 32) (l : Fin 4096) :
    doubled (hD : Vec Ideal S256x512 .bf16) q (ix2 d l) = q (ix2 d (⟨l.val / 2, by omega⟩ : Fin 2048)) := by
  unfold doubled
  refine (concatenate_ofFn_apply 1 (fun k : Fin 8 => twice (hD : Vec Ideal S256x512 .bf16) q k)
    concatenates_S32x512_S32x512_S32x512_S32x512_S32x512_S32x512_S32x512_S32x512_S32x4096_d1
    rfl 512 rfl (ix2 d l)
    (⟨l.val / 512, by omega⟩ : Fin 8) rfl (ix2 d (⟨l.val % 512, Nat.mod_lt _ (by decide)⟩ : Fin 512)) rfl
    (fun a ha => match a with | ⟨0, _⟩ => rfl | ⟨1, _⟩ => absurd rfl ha)).trans ?_
  unfold twice
  rw [mm dot_S32x256_S256x512_S32x512_1_0_0_1_n_n rfl, Finset.sum_eq_single (⟨l.val % 512 / 2, by omega⟩ : Fin 256)]
  · rw [hD_apply, if_pos rfl]
    refine (mul_one _).trans ?_
    exact extractStridedSlice_apply _ _ (slicesU _) _ (ix2 d (⟨l.val / 2, by omega⟩ : Fin 2048))
      (fun a => match a with
        | ⟨0, _⟩ => (Nat.zero_add _).symm
        | ⟨1, _⟩ => by
          show l.val / 2 = 256 * (l.val / 512) + l.val % 512 / 2
          omega)
  · intro s _ hs
    rw [hD_apply, if_neg (fun h => hs (Fin.ext h))]
    exact mul_zero _
  · intro h; exact absurd (Finset.mem_univ _) h

/-- The output of one half: the output convolution of the doubled codes, the bias and the mask. -/
theorem outOf_apply (O : Vec Ideal S256x32 .f32) (Bo : Vec Ideal S256x1 .f32) (M : Vec Ideal S1x1x4096 .f32)
    (q : FVec Ideal S32x2048 .f32) (o : Fin 256) (l : Fin 4096) :
    outOf (hD (F := Ideal)) O Bo M q (ix3 (0 : Fin 1) o l)
      = ((∑ d : Fin 32, O (ix2 o d) * q (ix2 d (⟨l.val / 2, by omega⟩ : Fin 2048))) + Bo (ix2 o (0 : Fin 1)))
          * M (ix3 (0 : Fin 1) (0 : Fin 1) l) := by
  have h3 : k0_pay3 (hD (F := Ideal)) = hD (F := Ideal) := by
    unfold k0_pay3
    exact shapeCast_self _ _
  have hb : ∀ v : FVec Ideal S256x1 .f32, broadcastTo S256x4096 v broadcasts_S256x1_S256x4096 (ix2 o l) = v (ix2 o (0 : Fin 1)) :=
    fun v => bcol (by decide) v _ o l
  have hr : ∀ u : FVec Ideal S1x4096 .f32, broadcastTo S256x4096 u broadcasts_S1x4096_S256x4096 (ix2 o l) = u (ix2 (0 : Fin 1) l) :=
    fun u => broadcastTo_1b_ab_apply u _ o l
  unfold outOf
  rw [shapeCast_ab_1ab_apply, mulf_apply, addf_apply, hb, hr, mm dot_S256x32_S32x4096_S256x4096_1_0_0_1_n_n rfl, h3,
    cast_self, cast_self, shapeCast_1ab_ab_apply]
  simp only [doubled_apply]
  rfl

/-- The sum of one half's squared differences. -/
theorem sqOf_apply (q z : FVec Ideal S32x2048 .f32) :
    sqOf q z = ∑ d : Fin 32, ∑ t : Fin 2048, (q (ix2 d t) - z (ix2 d t)) * (q (ix2 d t) - z (ix2 d t)) := by
  unfold sqOf
  refine Eq.trans (b := ∑ i : S1x32x2048.Idx, shapeCast S1x32x2048 (mulf (subf q z) (subf q z)) shapeCasts_S32x2048_S1x32x2048 i) ?_ ?_
  · exact Ideal.multiReduction_add_total _ _ reduces_S1x32x2048_S1 (by decide) (.inl rfl) rfl _
  · refine (Equiv.sum_comp (Shape.reshapeEquiv _) (mulf (subf q z) (subf q z))).trans ?_
    exact sum_idx2 _

end Cert.VQ
-- ==== Proof.K.Half.lean ====
/-
One half of a grid point's block, with finite arguments: what the kernel computes there is the mathematics of `Spec.lean`.
-/
module

public import proofs.«01_k».proof.Proof.Spec
public import proofs.«01_k».proof.Proof.K.Codes
public import proofs.«01_k».proof.Proof.K.Body

@[expose] public section

noncomputable section

namespace Cert.VQ

open Cert.KernelIdeal Cert.KernelIdeal.Gen Idealize.ShloMosaic Idealize.ShloMosaic.ValueIdx Cert.Spec
open scoped BigOperators

/-! ## The host's arrays at an entry -/

/-- The first tap. -/
theorem hW_lo (w : Vec Ideal S32x256x2 .f32) (d : Fin 32) (c : Fin 256) :
    hW w (ix2 (⟨d.val, by omega⟩ : Fin 64) c) = w (ix3 d c (0 : Fin 2)) := by
  unfold hW
  rw [concatenate_pair_apply_left 0 _ _ concatenates_S32x256_S32x256_S64x256_d0 (ix2 (⟨d.val, by omega⟩ : Fin 64) c) rfl (ix2 d c)
    (fun a => match a with | ⟨0, _⟩ => rfl | ⟨1, _⟩ => rfl)]
  rw [shapeCast_apply _ shapeCasts_S32x256x1_S32x256 (ix2 d c) (ix3 d c (0 : Fin 1)) (by
    rw [Shape.rowMajor_val_three, Shape.rowMajor_val_two]
    show (d.val * 256 + c.val) * 1 + 0 = d.val * 256 + c.val
    omega)]
  exact extractStridedSlice_apply _ _ slices_S32x256x2_S32x256x1_0_0_0 _ (ix3 d c (0 : Fin 2))
    (fun a => match a with | ⟨0, _⟩ => (Nat.zero_add _).symm | ⟨1, _⟩ => (Nat.zero_add _).symm | ⟨2, _⟩ => rfl)

/-- The second tap. -/
theorem hW_hi (w : Vec Ideal S32x256x2 .f32) (d : Fin 32) (c : Fin 256) :
    hW w (ix2 (⟨32 + d.val, by omega⟩ : Fin 64) c) = w (ix3 d c (1 : Fin 2)) := by
  unfold hW
  rw [concatenate_pair_apply_right 0 _ _ concatenates_S32x256_S32x256_S64x256_d0 (ix2 (⟨32 + d.val, by omega⟩ : Fin 64) c) rfl rfl (ix2 d c)
    (fun a ha => match a with | ⟨0, _⟩ => absurd rfl ha | ⟨1, _⟩ => rfl) (Nat.add_comm d.val 32)]
  rw [shapeCast_apply _ shapeCasts_S32x256x1_S32x256 (ix2 d c) (ix3 d c (0 : Fin 1)) (by
    rw [Shape.rowMajor_val_three, Shape.rowMajor_val_two]
    show (d.val * 256 + c.val) * 1 + 0 = d.val * 256 + c.val
    omega)]
  exact extractStridedSlice_apply _ _ slices_S32x256x2_S32x256x1_0_0_1 _ (ix3 d c (1 : Fin 2))
    (fun a => match a with | ⟨0, _⟩ => (Nat.zero_add _).symm | ⟨1, _⟩ => (Nat.zero_add _).symm | ⟨2, _⟩ => rfl)

/-- The word of minus two. -/
theorem ofBits_neg_two : Ideal.ofBits .f32 0xC0000000#32 = ((-2 : ℝ) : EReal) := by
  simp [Ideal.ofBits, Ideal.ieee, -EReal.coe_mul]
  norm_num

/-- Minus twice a code's entry. -/
theorem hA_apply (cb : Vec Ideal S512x32 .f32) (j : S512x32.Idx) : hA cb j = (((-2 : ℝ) : EReal) * cb j : EReal) := by
  unfold hA
  rw [mulf_apply]
  refine congrArg (· * (cb j : EReal)) ?_
  exact ofBits_neg_two

/-- The bias column. -/
theorem hBi_apply (b : Vec Ideal S32 .f32) (d : Fin 32) : hBi b (ix2 d (0 : Fin 1)) = b (ix1 d) :=
  broadcastInDim_apply _ bcast_S32_S32x1_0 b _ (ix1 d) (fun a => match a with | ⟨0, _⟩ => rfl)

/-- The output bias column. -/
theorem hBo_apply (b : Vec Ideal S256 .f32) (o : Fin 256) : hBo b (ix2 o (0 : Fin 1)) = b (ix1 o) :=
  broadcastInDim_apply _ bcast_S256_S256x1_0 b _ (ix1 o) (fun a => match a with | ⟨0, _⟩ => rfl)

/-- The codebook transposed. -/
theorem hQ_apply (cb : Vec Ideal S512x32 .f32) (d : Fin 32) (k : Fin 512) : hQ cb (ix2 d k) = cb (ix2 k d) :=
  transpose_ix2_apply cb _ d k

/-- The output weights as a matrix. -/
theorem hO_apply (w : Vec Ideal S256x32x1 .f32) (o : Fin 256) (d : Fin 32) : hO w (ix2 o d) = w (ix3 o d (0 : Fin 1)) :=
  shapeCast_apply w shapeCasts_S256x32x1_S256x32 (ix2 o d) (ix3 o d (0 : Fin 1)) (by
    rw [Shape.rowMajor_val_three, Shape.rowMajor_val_two]
    show (o.val * 32 + d.val) * 1 + 0 = o.val * 32 + d.val
    omega)

/-- A code's square. -/
theorem hC_apply (cb : Vec Ideal S512x32 .f32) (k : Fin 512) :
    hC cb (ix2 k (0 : Fin 1)) = (0 + ∑ d : Fin 32, cb (ix2 k d) * cb (ix2 k d) : EReal) := by
  unfold hC
  refine (broadcastInDim_apply _ bcast_S512_S512x1_0 _ _ (ix1 k) (fun a => match a with | ⟨0, _⟩ => rfl)).trans ?_
  simp only [Host.reduceAdd, Ideal.hostReduceAdd_def]
  rw [Ideal.hostReduceAdd_single reducesTo_S512x32_S512_d1 (by decide)]
  refine congrArg₂ (· + ·) Ideal.ofBits_zero_f32 (Finset.sum_congr rfl fun d _ => ?_)
  refine (congrArg (mulf cb cb) (?_ : _ = ix2 k d)).trans (mulf_apply _ _ _)
  funext a
  exact Fin.ext (by match a with | ⟨0, _⟩ => rfl | ⟨1, _⟩ => rfl)

end Cert.VQ
-- ==== Proof.K.Values.lean ====
/-
The kernel's two results with finite arguments and one nearest code for every latent: the output at every entry, and the loss.
-/
module

public import proofs.«01_k».proof.Proof.K.Half
public import proofs.«01_k».proof.Proof.K.Arr
public import Idealize.ShloMosaic.Lib.Pipeline.ValueKit.Tiles

@[expose] public section

noncomputable section

namespace Cert.VQ

open Cert.KernelIdeal Cert.KernelIdeal.Gen Idealize.ShloMosaic Idealize.ShloMosaic.ValueIdx Cert.Spec
open scoped BigOperators

/-! ## The halves of a batch's block -/

section Blocks

variable (x : Vec Ideal S16x256x8192 .f32) (mk : Vec Ideal S16x1x8192 .f32) (b : Fin 16)

theorem xLo_apply (c : Fin 256) (l : Fin 4096) : xLo (xBlk x b) (ix3 (0 : Fin 1) c l) = x (ix3 b c (lane 0 l)) :=
  (View.ld_unit_apply_of (xBlk x b) _ _ _ (ix3 (0 : Fin 1) c l) (ix3 (0 : Fin 1) c (lane 0 l))
    (fun a => match a with | ⟨0, _⟩ => rfl | ⟨1, _⟩ => (Nat.zero_add _).symm | ⟨2, _⟩ => by show 4096 * 0 + l.val = 0 + l.val; omega))

theorem xHi_apply (c : Fin 256) (l : Fin 4096) : xHi (xBlk x b) (ix3 (0 : Fin 1) c l) = x (ix3 b c (lane 1 l)) :=
  (View.ld_unit_apply_of (xBlk x b) _ _ _ (ix3 (0 : Fin 1) c l) (ix3 (0 : Fin 1) c (lane 1 l))
    (fun a => match a with | ⟨0, _⟩ => rfl | ⟨1, _⟩ => (Nat.zero_add _).symm | ⟨2, _⟩ => by show 4096 * 1 + l.val = 4096 + l.val; omega))

theorem mLo_apply (l : Fin 4096) : mLo (mBlk mk b) (ix3 (0 : Fin 1) (0 : Fin 1) l) = mk (ix3 b (0 : Fin 1) (lane 0 l)) :=
  (View.ld_unit_apply_of (mBlk mk b) _ _ _ (ix3 (0 : Fin 1) (0 : Fin 1) l) (ix3 (0 : Fin 1) (0 : Fin 1) (lane 0 l))
    (fun a => match a with | ⟨0, _⟩ => rfl | ⟨1, _⟩ => rfl | ⟨2, _⟩ => by show 4096 * 0 + l.val = 0 + l.val; omega))

theorem mHi_apply (l : Fin 4096) : mHi (mBlk mk b) (ix3 (0 : Fin 1) (0 : Fin 1) l) = mk (ix3 b (0 : Fin 1) (lane 1 l)) :=
  (View.ld_unit_apply_of (mBlk mk b) _ _ _ (ix3 (0 : Fin 1) (0 : Fin 1) l) (ix3 (0 : Fin 1) (0 : Fin 1) (lane 1 l))
    (fun a => match a with | ⟨0, _⟩ => rfl | ⟨1, _⟩ => rfl | ⟨2, _⟩ => by show 4096 * 1 + l.val = 4096 + l.val; omega))

end Blocks

/-- A block written in two halves, at a lane of the upper half. -/
theorem canon_hi (u v : Vec Ideal S1x256x4096 .f32) (o : Fin 256) (l : Fin 4096) :
    View.canon (Val := Elt Ideal) (e := .f32) [
      ⟨Rect.unit (s := S1x256x8192) ![0, 0, 4096] S1x256x4096.size inb_S1x256x8192_S1x256x4096_0_0_4096, u⟩,
      ⟨Rect.unit (s := S1x256x8192) ![0, 0, 0] S1x256x4096.size inb_S1x256x8192_S1x256x4096_0_0_0, v⟩]
      (ix3 (0 : Fin 1) o (lane 1 l)) = u (ix3 (0 : Fin 1) o l) := by
  have e : (ix3 (0 : Fin 1) o (lane 1 l) : S1x256x8192.Idx)
      = (Rect.unit (s := S1x256x8192) ![0, 0, 4096] S1x256x4096.size inb_S1x256x8192_S1x256x4096_0_0_4096).emb
          (ix3 (0 : Fin 1) o l) := by
    funext a
    refine Fin.ext ?_
    match a with
    | ⟨0, _⟩ => rfl
    | ⟨1, _⟩ => show o.val = 0 + 1 * o.val; omega
    | ⟨2, _⟩ => show 4096 * 1 + l.val = 4096 + 1 * l.val; omega
  rw [e]
  exact View.canon_cons_emb _ _ _ _

/-- A block written in two halves, at a lane of the lower half. -/
theorem canon_lo (u v : Vec Ideal S1x256x4096 .f32) (o : Fin 256) (l : Fin 4096) :
    View.canon (Val := Elt Ideal) (e := .f32) [
      ⟨Rect.unit (s := S1x256x8192) ![0, 0, 4096] S1x256x4096.size inb_S1x256x8192_S1x256x4096_0_0_4096, u⟩,
      ⟨Rect.unit (s := S1x256x8192) ![0, 0, 0] S1x256x4096.size inb_S1x256x8192_S1x256x4096_0_0_0, v⟩]
      (ix3 (0 : Fin 1) o (lane 0 l)) = v (ix3 (0 : Fin 1) o l) := by
  have e : (ix3 (0 : Fin 1) o (lane 0 l) : S1x256x8192.Idx)
      = (Rect.unit (s := S1x256x8192) ![0, 0, 0] S1x256x4096.size inb_S1x256x8192_S1x256x4096_0_0_0).emb
          (ix3 (0 : Fin 1) o l) := by
    funext a
    refine Fin.ext ?_
    match a with
    | ⟨0, _⟩ => rfl
    | ⟨1, _⟩ => show o.val = 0 + 1 * o.val; omega
    | ⟨2, _⟩ => show 4096 * 0 + l.val = 0 + 1 * l.val; omega
  refine (View.canon_cons_of_not_mem _ _ ?_).trans ?_
  · intro h
    have h2 := ((Rect.mem_set_unit (inb := inb_S1x256x8192_S1x256x4096_0_0_4096)).mp h (2 : Fin 3)).1
    have h3 : 4096 ≤ 4096 * 0 + l.val := h2
    omega
  · rw [e]
    exact View.canon_cons_emb _ _ _ _

section Out

variable (x0 : Vec Ideal S1x256x8192 .f32) (x1 : Vec Ideal S1x1x8192 .f32) (x2 : Vec Ideal S64x256 .f32) (x3 : Vec Ideal S32x1 .f32)
  (x4 : Vec Ideal S512x32 .f32) (x5 : Vec Ideal S512x1 .f32) (x6 : Vec Ideal S32x512 .f32) (x7 : Vec Ideal S256x32 .f32)
  (x8 : Vec Ideal S256x1 .f32) (x9 : Vec Ideal S256x128 .bf16) (x10 : Vec Ideal S256x512 .bf16) (o : Fin 256) (l : Fin 4096)

/-- The output block at a lane of the lower half. -/
theorem outBlk_lo : outBlk x0 x1 x2 x3 x4 x5 x6 x7 x8 x9 x10 (ix3 (0 : Fin 1) o (lane 0 l))
    = outOf x10 x7 x8 (mLo x1) (chosen x9 (xLo x0) x2 x3 x4 x5 x6) (ix3 (0 : Fin 1) o l) := canon_lo _ _ o l

/-- The output block at a lane of the upper half. -/
theorem outBlk_hi : outBlk x0 x1 x2 x3 x4 x5 x6 x7 x8 x9 x10 (ix3 (0 : Fin 1) o (lane 1 l))
    = outOf x10 x7 x8 (mHi x1) (chosen x9 (xHi x0) x2 x3 x4 x5 x6) (ix3 (0 : Fin 1) o l) := canon_hi _ _ o l

/-- Stacked blocks at an entry. -/
theorem stack_apply (G : Fin 16 → Vec Ideal S1x256x8192 .f32) (b : Fin 16) (p : Fin 8192) :
    stack G (ix3 b o p) = G b (ix3 (0 : Fin 1) o p) := rfl

end Out

/-! ## One half -/

section Half

variable {xr : Fin 16 → Fin 256 → Fin 8192 → ℝ} {wr : Fin 32 → Fin 256 → Fin 2 → ℝ} {br : Fin 32 → ℝ} {cr : Fin 512 → Fin 32 → ℝ}
  {K : Fin 16 → Fin 4096 → Fin 512}
  (w : Vec Ideal S32x256x2 .f32) (bi : Vec Ideal S32 .f32) (cb : Vec Ideal S512x32 .f32)
  (hw : ∀ d c k, w (ix3 d c k) = (wr d c k : EReal)) (hb : ∀ d, bi (ix1 d) = (br d : EReal))
  (hc : ∀ k d, cb (ix2 k d) = (cr k d : EReal)) (hK : Nearest xr wr br cr K)
  (b : Fin 16) (h : Fin 2) (X : Vec Ideal S1x256x4096 .f32) (hX : ∀ c l, X (ix3 (0 : Fin 1) c l) = (xr b c (lane h l) : EReal))

include hw hb hX in
/-- The payload at an even lane is the latent. -/
theorem pay4_half (d : Fin 32) (t : Fin 2048) :
    k0_pay4 X (hW w) (hBi bi) (ix2 d (⟨2 * t.val, by omega⟩ : Fin 4096)) = (z xr wr br b (pos h t) d : EReal) := by
  rw [pay4_apply, hBi_apply, hb]
  have e0 : lane h (⟨2 * t.val, by omega⟩ : Fin 4096) = ev (pos h t) := Fin.ext (by simp only [lane, ev, pos]; omega)
  have e1 : lane h (nextLane (⟨2 * t.val, by omega⟩ : Fin 4096)) = od (pos h t) := Fin.ext (by simp only [lane, od, pos, nextLane]; omega)
  unfold z
  rw [EReal.coe_add, EReal.coe_add, coe_sum, coe_sum]
  refine congrArg (· + (br d : EReal)) (congrArg₂ (· + ·) (Finset.sum_congr rfl fun c _ => ?_) (Finset.sum_congr rfl fun c _ => ?_))
  · rw [hW_lo, hw, hX, e0, EReal.coe_mul]
  · rw [hW_hi, hw, hX, e1, EReal.coe_mul]

include hw hb hX in
/-- The latents of a half. -/
theorem lat_half (d : Fin 32) (t : Fin 2048) :
    lat (hE : Vec Ideal S256x128 .bf16) X (hW w) (hBi bi) (ix2 d t) = (z xr wr br b (pos h t) d : EReal) := by
  have e := pay4_half w bi hw hb b h X hX d t
  exact (lat_apply X (hW w) (hBi bi) d t ⟨_, e⟩).trans e

include hw hb hc hX in
/-- The distances of a half. -/
theorem dist_half (k : Fin 512) (t : Fin 2048) :
    dist (hA cb) (hC cb) (lat (hE : Vec Ideal S256x128 .bf16) X (hW w) (hBi bi)) (ix2 k t)
      = (kd cr (z xr wr br b (pos h t)) k : EReal) := by
  rw [dist_apply, hC_apply, zero_add]
  unfold kd
  rw [EReal.coe_add, coe_sum, coe_sum]
  refine congrArg₂ (· + ·) (Finset.sum_congr rfl fun d _ => ?_) (Finset.sum_congr rfl fun d _ => ?_)
  · rw [hA_apply, hc, lat_half w bi hw hb b h X hX, ← EReal.coe_mul, ← EReal.coe_mul]
  · rw [hc, ← EReal.coe_mul]

include hw hb hc hK hX in
/-- The chosen codes of a half. -/
theorem chosen_half (d : Fin 32) (t : Fin 2048) :
    chosen (hE : Vec Ideal S256x128 .bf16) X (hW w) (hBi bi) (hA cb) (hC cb) (hQ cb) (ix2 d t) = (cr (K b (pos h t)) d : EReal) := by
  unfold chosen
  rw [codes_apply (hQ cb) _ t (K b (pos h t)) (hot_apply _ t (K b (pos h t)) fun k hk => by
    rw [dist_half w bi cb hw hb hc b h X hX, dist_half w bi cb hw hb hc b h X hX]
    exact EReal.coe_lt_coe_iff.mpr (hK.kd_lt b (pos h t) k hk)) d]
  rw [hQ_apply, hc]

include hw hb hc hK hX in
/-- The sum of the squared differences of a half. -/
theorem sq_half :
    sqHalf X (hW w) (hBi bi) (hA cb) (hC cb) (hQ cb) (hE : Vec Ideal S256x128 .bf16)
      = ((∑ t : Fin 2048, sqd cr (z xr wr br b (pos h t)) (K b (pos h t)) : ℝ) : EReal) := by
  unfold sqHalf sqd
  rw [sqOf_apply, Finset.sum_comm, coe_sum]
  refine Finset.sum_congr rfl fun t _ => ?_
  rw [coe_sum]
  refine Finset.sum_congr rfl fun d _ => ?_
  rw [chosen_half w bi cb hw hb hc hK b h X hX, lat_half w bi hw hb b h X hX, EReal.coe_mul, EReal.coe_sub]

include hw hb hc hK hX in
/-- The output of a half. -/
theorem out_half (wo : Vec Ideal S256x32x1 .f32) (bo : Vec Ideal S256 .f32) (M : Vec Ideal S1x1x4096 .f32) (o : Fin 256) (l : Fin 4096) :
    outOf (hD (F := Ideal)) (hO wo) (hBo bo) M
        (chosen (hE : Vec Ideal S256x128 .bf16) X (hW w) (hBi bi) (hA cb) (hC cb) (hQ cb)) (ix3 (0 : Fin 1) o l)
      = ((∑ d : Fin 32, wo (ix3 o d (0 : Fin 1)) * (cr (K b (⟨(lane h l).val / 2, by omega⟩ : Fin 4096)) d : EReal)) + bo (ix1 o) : EReal)
          * M (ix3 (0 : Fin 1) (0 : Fin 1) l) := by
  rw [outOf_apply, hBo_apply]
  have e : pos h (⟨l.val / 2, by omega⟩ : Fin 2048) = (⟨(lane h l).val / 2, by omega⟩ : Fin 4096) :=
    Fin.ext (by simp only [lane, pos]; omega)
  refine congrArg (fun s : EReal => (s + bo (ix1 o)) * M (ix3 (0 : Fin 1) (0 : Fin 1) l)) (Finset.sum_congr rfl fun d _ => ?_)
  rw [hO_apply, chosen_half w bi cb hw hb hc hK b h X hX, e]

end Half

/-! ## The results -/

section Results

variable {xr : Fin 16 → Fin 256 → Fin 8192 → ℝ} {wr : Fin 32 → Fin 256 → Fin 2 → ℝ} {br : Fin 32 → ℝ} {cr : Fin 512 → Fin 32 → ℝ}
  {K : Fin 16 → Fin 4096 → Fin 512}
  (x : Vec Ideal S16x256x8192 .f32) (mk : Vec Ideal S16x1x8192 .f32)
  (w : Vec Ideal S32x256x2 .f32) (bi : Vec Ideal S32 .f32) (cb : Vec Ideal S512x32 .f32)
  (wo : Vec Ideal S256x32x1 .f32) (bo : Vec Ideal S256 .f32)
  (hx : ∀ b c l, x (ix3 b c l) = (xr b c l : EReal))
  (hw : ∀ d c k, w (ix3 d c k) = (wr d c k : EReal)) (hb : ∀ d, bi (ix1 d) = (br d : EReal))
  (hc : ∀ k d, cb (ix2 k d) = (cr k d : EReal)) (hK : Nearest xr wr br cr K)

include hx hw hb hc hK in
/-- The output at an entry. -/
theorem outArr_apply (b : Fin 16) (o : Fin 256) (l : Fin 8192) :
    outArr x mk w bi cb wo bo (ix3 b o l)
      = ((∑ d : Fin 32, wo (ix3 o d (0 : Fin 1)) * (cr (K b (⟨l.val / 2, by omega⟩ : Fin 4096)) d : EReal)) + bo (ix1 o) : EReal)
          * mk (ix3 b (0 : Fin 1) l) := by
  unfold outArr
  rw [stack_apply]
  unfold outB
  by_cases hl : l.val < 4096
  · obtain ⟨l', rfl⟩ : ∃ l' : Fin 4096, l = lane 0 l' := ⟨⟨l.val, hl⟩, Fin.ext (by simp [lane])⟩
    rw [outBlk_lo]
    refine (out_half w bi cb hw hb hc hK b 0 (xLo (xBlk x b)) (fun c l => (xLo_apply x b c l).trans (hx _ _ _)) wo bo _ o l').trans ?_
    rw [mLo_apply]
  · obtain ⟨l', rfl⟩ : ∃ l' : Fin 4096, l = lane 1 l' := ⟨⟨l.val - 4096, by omega⟩, Fin.ext (by simp only [lane]; omega)⟩
    rw [outBlk_hi]
    refine (out_half w bi cb hw hb hc hK b 1 (xHi (xBlk x b)) (fun c l => (xHi_apply x b c l).trans (hx _ _ _)) wo bo _ o l').trans ?_
    rw [mHi_apply]

/-- The word of two to the minus twenty-one. -/
theorem ofBits_inv : Ideal.ofBits .f32 0x35000000#32 = ((1 / 2097152 : ℝ) : EReal) := by
  simp [Ideal.ofBits, Ideal.ieee, -EReal.coe_mul]
  norm_num

/-- A share of two real sums. -/
theorem share_real (s0 s1 : ℝ) : share (F := Ideal) (s0 : EReal) (s1 : EReal) = (((s0 + s1) / 2097152 : ℝ) : EReal) := by
  show (Ideal.ofBits .f32 0x00000000#32 + (s0 : EReal) * Ideal.ofBits .f32 0x35000000#32) + (s1 : EReal) * Ideal.ofBits .f32 0x35000000#32 = _
  rw [Ideal.ofBits_zero_f32, ofBits_inv, zero_add, ← EReal.coe_mul, ← EReal.coe_mul, ← EReal.coe_add]
  refine congrArg _ ?_
  ring

include hx hw hb hc hK in
/-- A batch's share of the loss. -/
theorem lossB_eq (b : Fin 16) :
    lossB x w bi cb b = (((∑ t : Fin 4096, sqd cr (z xr wr br b t) (K b t)) / 2097152 : ℝ) : EReal) := by
  unfold lossB lossShare
  rw [sq_half w bi cb hw hb hc hK b 0 (xLo (xBlk x b)) (fun c l => (xLo_apply x b c l).trans (hx _ _ _)),
    sq_half w bi cb hw hb hc hK b 1 (xHi (xBlk x b)) (fun c l => (xHi_apply x b c l).trans (hx _ _ _)), share_real, sum_pos]

include hx hw hb hc hK in
/-- The running sum of the shares. -/
theorem lossSum_eq (n : ℕ) (hn : n < 16) :
    lossSum x w bi cb n hn
      = ((∑ i : Fin (n + 1), (∑ t : Fin 4096, sqd cr (z xr wr br ⟨i.val, by omega⟩ t) (K ⟨i.val, by omega⟩ t)) / 2097152 : ℝ) : EReal) := by
  induction n with
  | zero =>
    show (Ideal.ofBits .f32 0x00000000#32 + lossB x w bi cb ⟨0, hn⟩ : EReal) = _
    rw [Ideal.ofBits_zero_f32, zero_add, lossB_eq x w bi cb hx hw hb hc hK, Fin.sum_univ_one]
    rfl
  | succ n ih =>
    show (lossSum x w bi cb n _ + lossB x w bi cb ⟨n + 1, hn⟩ : EReal) = _
    rw [ih, lossB_eq x w bi cb hx hw hb hc hK, ← EReal.coe_add, Fin.sum_univ_castSucc (n := n + 1)]
    rfl

include hx hw hb hc hK in
/-- The loss. -/
theorem lossArr_apply (i : S1x1.Idx) : lossArr x w bi cb i = (loss xr wr br cr K : EReal) := by
  refine (lossSum_eq x w bi cb hx hw hb hc hK 15 (by decide)).trans (congrArg _ ?_)
  unfold loss
  rw [Finset.sum_div]

end Results

end Cert.VQ
-- ==== Proof.Ref.Argmin.lean ====
/-
The reference's choice of a code: the argument of the minimum of the distances, and the code it takes.
-/
module

public import proofs.«01_k».proof.Proof.Ref.Read
public import Idealize.ShloMosaic.Lib.ReduceAll

@[expose] public section

noncomputable section

namespace Cert.RefRead

open Cert.ReferenceIdeal Cert.ReferenceIdeal.Gen Idealize.ShloMosaic Idealize.ShloMosaic.ValueIdx
open scoped BigOperators

/-! ## The argument of the minimum -/

theorem step_keep (a b : EReal × BitVec 32) (h : a.1 < b.1) : reducer_argmin_f32_i32 (F := Ideal) a b = a := by
  have e : (FloatOps.cmpf (F := Ideal) (φ := .f32) .olt a.1 b.1 : BitVec 1) = 1#1 := by
    show BitVec.ofBool (decide (a.1 < b.1)) = 1#1
    rw [decide_eq_true h]; rfl
  have e2 : ∀ y : BitVec 1, IntOp.ori 1#1 y = 1#1 := by decide
  unfold reducer_argmin_f32_i32
  simp only [e, e2]
  rfl

theorem step_take (a b : EReal × BitVec 32) (h : b.1 < a.1) : reducer_argmin_f32_i32 (F := Ideal) a b = b := by
  have e : (FloatOps.cmpf (F := Ideal) (φ := .f32) .olt a.1 b.1 : BitVec 1) = 0#1 := by
    show BitVec.ofBool (decide (a.1 < b.1)) = 0#1
    rw [decide_eq_false (not_lt.mpr h.le)]; rfl
  have e' : (FloatOps.cmpf (F := Ideal) (φ := .f32) .une a.1 a.1 : BitVec 1) = 0#1 := by
    show BitVec.ofBool (decide (a.1 ≠ a.1)) = 0#1
    rw [decide_eq_false (fun h => h rfl)]; rfl
  have e'' : (FloatOps.cmpf (F := Ideal) (φ := .f32) .oeq a.1 b.1 : BitVec 1) = 0#1 := by
    show BitVec.ofBool (decide (a.1 = b.1)) = 0#1
    rw [decide_eq_false h.ne']; rfl
  have e2 : ∀ y : BitVec 1, IntOp.ori 0#1 (IntOp.andi 0#1 y) = 0#1 := by decide
  have e3 : IntOp.ori 0#1 0#1 = 0#1 := by decide
  unfold reducer_argmin_f32_i32
  simp only [e, e', e'', e2, e3]
  rfl

theorem step_self (a : EReal × BitVec 32) : reducer_argmin_f32_i32 (F := Ideal) a a = a := by
  unfold reducer_argmin_f32_i32
  simp only [Scalar.select]
  refine Prod.ext ?_ ?_ <;> simp

theorem step_eq (a b : EReal × BitVec 32) (h : a.1 = b.1) : (reducer_argmin_f32_i32 (F := Ideal) a b).1 = b.1 := by
  unfold reducer_argmin_f32_i32
  simp only [Scalar.select, h]
  simp

/-- Folding the reducer over pairs of which one is `p` and every other is above it gives `p`. -/
theorem foldl_argmin (p : EReal × BitVec 32) : ∀ (l : List (EReal × BitVec 32)) (a : EReal × BitVec 32),
    (∀ q ∈ l, q = p ∨ p.1 < q.1) → (a = p ∨ (p.1 < a.1 ∧ p ∈ l)) →
    l.foldl (reducer_argmin_f32_i32 (F := Ideal)) a = p
  | [], a, _, h => by
    rcases h with h | h
    · exact h
    · exact absurd h.2 List.not_mem_nil
  | q :: l, a, hl, h => by
    have hl' : ∀ q ∈ l, q = p ∨ p.1 < q.1 := fun q hq => hl q (List.mem_cons_of_mem _ hq)
    rw [List.foldl_cons]
    rcases hl q List.mem_cons_self with rfl | hq
    · refine foldl_argmin q l _ hl' (Or.inl ?_)
      rcases h with rfl | h
      · exact step_self _
      · exact step_take _ _ h.1
    · rcases h with rfl | ⟨ha, hm⟩
      · exact foldl_argmin _ l _ hl' (Or.inl (step_keep _ _ hq))
      · refine foldl_argmin p l _ hl' (Or.inr ⟨?_, ?_⟩)
        · rcases lt_trichotomy a.1 q.1 with h1 | h1 | h1
          · rw [step_keep _ _ h1]; exact ha
          · rw [step_eq _ _ h1]; exact hq
          · rw [step_take _ _ h1]; exact hq
        · rcases List.mem_cons.1 hm with rfl | hm
          · exact absurd hq (lt_irrefl _)
          · exact hm

/-- A row whose distance to code `K` is below every other one has `K` as the argument of its minimum. -/
theorem argmin_at (v : FVec Ideal S65536x512 .f32) (r : Fin 65536) (K : Fin 512) (hf : (v (ix2 r K) : EReal) < ⊤)
    (hK : ∀ k, k ≠ K → (v (ix2 r K) : EReal) < v (ix2 r k)) :
    Host.argReduce (F := Ideal) (φ := .f32) reducer_argmin_f32_i32 v (val_main_call0_v0 (F := Ideal)) (val_main_call0_cst (F := Ideal))
      (val_main_call0_c (F := Ideal)) reducesTo_S65536x512_S65536_d1 h_S_ (ix1 r) = ((v (ix2 r K) : EReal), BitVec.ofNat 32 K.val) := by
  rw [Ideal.argReduce_eq_reduce2, Host.reduce2_eq_foldl_fiber]
  have hi : ∀ i : S65536x512.Idx, reducesTo_S65536x512_S65536_d1.drop i = ix1 r → ∃ k : Fin 512, i = ix2 r k := fun i e => by
    refine ⟨⟨(i 1).val, (i 1).isLt⟩, funext fun a => Fin.ext ?_⟩
    match a with
    | ⟨0, _⟩ =>
      have := congrArg (fun j : S65536.Idx => (j 0).val) e
      exact (Shape.ReducesTo.drop_apply_val_of_eq reducesTo_S65536x512_S65536_d1 i 0 0).symm.trans this
    | ⟨1, _⟩ => rfl
  have hd : reducesTo_S65536x512_S65536_d1.drop (ix2 r K : S65536x512.Idx) = ix1 r := funext fun a => Fin.ext (by
    match a with
    | ⟨0, _⟩ => exact Shape.ReducesTo.drop_apply_val_of_eq reducesTo_S65536x512_S65536_d1 (ix2 r K : S65536x512.Idx) 0 0)
  refine foldl_argmin _ _ _ ?_ (Or.inr ⟨?_, ?_⟩)
  · intro q hq
    obtain ⟨n, hn, rfl⟩ := List.mem_map.1 hq
    have hn' := (List.mem_filter.1 hn).2
    obtain ⟨k, hk⟩ := hi _ (by simpa using hn')
    by_cases h : k = K
    · subst h
      refine Or.inl ?_
      show (v _, val_main_call0_v0 (F := Ideal) _) = _
      rw [hk]
      rfl
    · refine Or.inr ?_
      show (v (ix2 r K) : EReal) < v _
      rw [hk]
      exact hK k h
  · refine lt_of_lt_of_eq hf ?_
    show (⊤ : EReal) = Ideal.ofBits .f32 0x7F800000#32
    simp [Ideal.ofBits, Ideal.ieee]
  · refine List.mem_map.2 ⟨S65536x512.rowMajor (ix2 r K), List.mem_filter.2 ⟨List.mem_finRange _, ?_⟩, ?_⟩
    · simp [hd]
    · simp only [Equiv.symm_apply_apply]
      rfl

/-! ## The code taken -/

/-- Rows taken by index: row `r` of the result is the row of the operand its index names, clamped. -/
theorem gather_at (cb : FVec Ideal S512x32 .f32) (idx : IVec S65536x1 32) (r : Fin 65536) (d : Fin 32) :
    Host.gather gather_S512x32_S65536x1_S65536x32_1_0_n_n_0_1_132 cb idx (ix2 r d)
      = cb (ix2 (⟨min (idx (ix2 r (0 : Fin 1))).toInt.toNat 511, by omega⟩ : Fin 512) d) := by
  let D := gather_S512x32_S65536x1_S65536x32_1_0_n_n_0_1_132
  unfold Host.gather
  congr 1
  funext a
  refine Fin.ext ?_
  show D.start (ix2 r d) idx a + D.batchCoord (ix2 r d) a + D.offCoord (ix2 r d) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => List.not_mem_nil h),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ D.startIndexMap from List.mem_singleton.mpr rfl)]
    have hsi : D.siIdx (ix2 r d) ⟨List.idxOf (0 : Fin 2) D.startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · rw [GatherDims.batchCoord_eq_zero _ _ _ (fun h => List.not_mem_nil h)]
    unfold GatherDims.start
    rw [dif_neg (show ¬ (1 : Fin 2) ∈ D.startIndexMap from by decide)]
    simp only [Nat.zero_add, Nat.add_zero]
    rfl

section Take

variable (x : Vec Ideal S16x256x8192 .f32) (w : Vec Ideal S32x256x2 .f32) (bi : Vec Ideal S32 .f32) (cb : Vec Ideal S512x32 .f32)
  (r : Fin 65536) (K : Fin 512) (h : val_main_v22 (F := Ideal) x w bi cb (ix1 r) = BitVec.ofNat 32 K.val)

theorem word_slt : ∀ K : Fin 512, IntOp.cmpi .slt (BitVec.ofNat 32 K.val) 0#32 = 0#1 := by decide +kernel
theorem word_sge : ∀ K : Fin 512, IntOp.cmpi .sge (BitVec.ofNat 32 K.val) 0#32 = 1#1 := by decide +kernel
theorem word_sle : ∀ K : Fin 512, IntOp.cmpi .sle (BitVec.ofNat 32 K.val) 511#32 = 1#1 := by decide +kernel
theorem word_row : ∀ K : Fin 512, min (BitVec.ofNat 32 K.val).toInt.toNat 511 = K.val := by decide +kernel

include h in
/-- The index the take uses. -/
theorem takeIdx_at : val_main_call1_v5 (F := Ideal) x w bi cb (ix2 r (0 : Fin 1)) = BitVec.ofNat 32 K.val := by
  rw [val_main_call1_v5_apply,
    show idx_main_call1_v5 (ix2 r (0 : Fin 1)) = ix1 r from funext fun a => match a with | ⟨0, _⟩ => rfl,
    val_main_call1_v4_apply, val_main_call1_v1_apply, val_main_call1_v0_apply, val_main_call1_c_apply, h, word_slt]
  rfl

include h in
/-- The index is in range. -/
theorem takeOk_at : val_main_call1_v12 (F := Ideal) x w bi cb (ix1 r) = 1#1 := by
  unfold val_main_call1_v12
  rw [Host.reduce_eq_foldl]
  refine IntOp.foldl_andi_one _ _ _ rfl fun i hi => ?_
  have hd : reducesTo_S65536x1_S65536_d1.drop i = ix1 r := by simpa using (List.mem_filter.1 hi).2
  have e : i = ix2 r (0 : Fin 1) := funext fun a => Fin.ext (by
    match a with
    | ⟨0, _⟩ =>
      have := congrArg (fun j : S65536.Idx => (j 0).val) hd
      exact (Shape.ReducesTo.drop_apply_val_of_eq reducesTo_S65536x1_S65536_d1 i 0 0).symm.trans this
    | ⟨1, _⟩ =>
      have := (i 1).isLt
      have h1 : (i 1).val < 1 := this
      show (i 1).val = 0
      omega)
  rw [e, val_main_call1_v11_apply, val_main_call1_v7_apply, val_main_call1_v10_apply, takeIdx_at x w bi cb r K h,
    val_main_call1_v6_apply, val_main_call1_c_2_apply, val_main_call1_v9_apply, val_main_call1_v8_apply, val_main_call1_c_1_apply,
    word_sge, word_sle]
  rfl

include h in
/-- The code taken. -/
theorem v23_at (d : Fin 32) : val_main_v23 (F := Ideal) x w bi cb (ix2 r d) = cb (ix2 K d) := by
  rw [val_main_v23_apply, val_main_call1_v14_apply,
    show idx_main_call1_v14 (ix2 r d) = ix1 r from funext fun a => match a with | ⟨0, _⟩ => rfl, takeOk_at x w bi cb r K h]
  show val_main_call1_v13 (F := Ideal) x w bi cb (ix2 r d) = _
  unfold val_main_call1_v13
  refine (gather_at cb _ r d).trans (congrArg (fun k : Fin 512 => cb (ix2 k d)) (Fin.ext ?_))
  exact (congrArg (fun u : BitVec 32 => min u.toInt.toNat 511) (takeIdx_at x w bi cb r K h)).trans (word_row K)

end Take

end Cert.RefRead
-- ==== Proof.Ref.Values.lean ====
/-
The reference's two results with finite arguments and one nearest code for every latent: the output at every entry, and the
loss.
-/
module

public import proofs.«01_k».proof.Proof.Ref.Latent
public import proofs.«01_k».proof.Proof.Ref.Argmin

@[expose] public section

noncomputable section

namespace Cert.RefRead

open Cert.ReferenceIdeal Cert.ReferenceIdeal.Gen Idealize.ShloMosaic Idealize.ShloMosaic.ValueIdx Cert.Spec
open scoped BigOperators

/-- The word of 2097152. -/
theorem ofBits_count : Ideal.ofBits .f32 0x4A000000#32 = ((2097152 : ℝ) : EReal) := by
  simp [Ideal.ofBits, Ideal.ieee, -EReal.coe_mul]
  norm_num

/-- The indices of a three-axis shape are the triples of their coordinates. -/
def idxEquiv3 (n0 n1 n2 : ℕ) : (⟨3, ![n0, n1, n2]⟩ : Shape).Idx ≃ Fin n0 × Fin n1 × Fin n2 where
  toFun i := (i 0, i 1, i 2)
  invFun p := ix3 p.1 p.2.1 p.2.2
  left_inv i := funext fun a => match a with | ⟨0, _⟩ => rfl | ⟨1, _⟩ => rfl | ⟨2, _⟩ => rfl
  right_inv _ := rfl

/-- A sum over three axes is the triple sum over the coordinates. -/
theorem sum_axes3 {n0 n1 n2 : ℕ} (f : (⟨3, ![n0, n1, n2]⟩ : Shape).Idx → EReal) :
    ∑ i, f i = ∑ a : Fin n0, ∑ b : Fin n1, ∑ c : Fin n2, f (ix3 a b c) := by
  rw [← Equiv.sum_comp (idxEquiv3 n0 n1 n2).symm f, Fintype.sum_prod_type]
  refine Finset.sum_congr rfl fun a _ => ?_
  rw [Fintype.sum_prod_type]
  rfl

/-- The second members of a family of pairs. -/
def seconds {ι α β : Type} (p : ι → α × β) : ι → β := fun j => (p j).2

theorem seconds_apply {ι α β : Type} (p : ι → α × β) (j : ι) (a : α) (b : β) (h : p j = (a, b)) : seconds p j = b := by
  show (p j).2 = b
  rw [h]

section Index

-- the reduction is over 2 ^ 25 entries and is only ever to be rewritten, never computed
attribute [local irreducible] Host.argReduce

/-- The index stage, by its definition. -/
theorem v22_eq {F : FTy → Type} [FloatOps F] (x : Vec F S16x256x8192 .f32) (w : Vec F S32x256x2 .f32) (bi : Vec F S32 .f32)
    (cb : Vec F S512x32 .f32) :
    val_main_v22 (F := F) x w bi cb
      = seconds (Host.argReduce reducer_argmin_f32_i32 (val_main_v21 (F := F) x w bi cb) (val_main_call0_v0 (F := F))
          (val_main_call0_cst (F := F)) (val_main_call0_c (F := F)) reducesTo_S65536x512_S65536_d1 h_S_) := rfl

/-- The index stage at a row whose least entry stands at one column only. -/
theorem v22_row (x : Vec Ideal S16x256x8192 .f32) (w : Vec Ideal S32x256x2 .f32) (bi : Vec Ideal S32 .f32)
    (cb : Vec Ideal S512x32 .f32) (r : Fin 65536) (K : Fin 512) (hf : (val_main_v21 (F := Ideal) x w bi cb (ix2 r K) : EReal) < ⊤)
    (hK : ∀ k, k ≠ K →
      (val_main_v21 (F := Ideal) x w bi cb (ix2 r K) : EReal) < val_main_v21 (F := Ideal) x w bi cb (ix2 r k)) :
    val_main_v22 (F := Ideal) x w bi cb (ix1 r) = BitVec.ofNat 32 K.val :=
  (congrFun (v22_eq x w bi cb) (ix1 r)).trans (seconds_apply _ _ _ _ (argmin_at _ r K hf hK))

end Index

section Real

variable {xr : Fin 16 → Fin 256 → Fin 8192 → ℝ} {wr : Fin 32 → Fin 256 → Fin 2 → ℝ} {br : Fin 32 → ℝ} {cr : Fin 512 → Fin 32 → ℝ}
  {K : Fin 16 → Fin 4096 → Fin 512}
  (x : Vec Ideal S16x256x8192 .f32) (mk : Vec Ideal S16x1x8192 .f32) (w : Vec Ideal S32x256x2 .f32) (bi : Vec Ideal S32 .f32)
  (cb : Vec Ideal S512x32 .f32) (wo : Vec Ideal S256x32x1 .f32) (bo : Vec Ideal S256 .f32)
  (hx : ∀ b c l, x (ix3 b c l) = (xr b c l : EReal))
  (hw : ∀ d c k, w (ix3 d c k) = (wr d c k : EReal)) (hb : ∀ d, bi (ix1 d) = (br d : EReal))
  (hc : ∀ k d, cb (ix2 k d) = (cr k d : EReal)) (hK : Nearest xr wr br cr K)

include hx hw hb hc hK in
/-- The index of the nearest code. -/
theorem v22_at (b : Fin 16) (t : Fin 4096) : val_main_v22 (F := Ideal) x w bi cb (ix1 (row b t)) = BitVec.ofNat 32 (K b t).val := by
  have e : ∀ k, val_main_v21 (F := Ideal) x w bi cb (ix2 (row b t) k) = (rd cr (z xr wr br b t) k : EReal) :=
    fun k => v21_at x w bi cb hx hw hb hc b t k
  refine v22_row x w bi cb (row b t) (K b t) ?_ fun k hk => ?_
  · rw [e]; exact EReal.coe_lt_top _
  · rw [e, e]; exact EReal.coe_lt_coe_iff.mpr (hK b t k hk)

include hx hw hb hc hK in
/-- The chosen codes. -/
theorem v24_at (b : Fin 16) (t : Fin 4096) (d : Fin 32) :
    val_main_v24 (F := Ideal) x w bi cb (ix3 b t d) = (cr (K b t) d : EReal) := by
  rw [val_main_v24_apply, show idx_main_v24 (ix3 b t d) = ix2 (row b t) d from funext fun a => Fin.ext (by
    match a with
    | ⟨0, _⟩ => show ((b.val * 4096 + t.val) * 32 + d.val) / 32 = b.val * 4096 + t.val; omega
    | ⟨1, _⟩ => show ((b.val * 4096 + t.val) * 32 + d.val) % 32 = d.val; omega),
    v23_at x w bi cb (row b t) (K b t) (v22_at x w bi cb hx hw hb hc hK b t), hc]

include hx hw hb hc hK in
/-- The chosen codes, after the latent is added and taken away. -/
theorem v31_at (b : Fin 16) (t : Fin 4096) (d : Fin 32) :
    val_main_v31 (F := Ideal) x w bi cb (ix3 b t d) = (cr (K b t) d : EReal) := by
  rw [val_main_v31_apply, val_main_v30_apply, v24_at x w bi cb hx hw hb hc hK, v6_at x w bi hx hw hb]
  show (z xr wr br b t d : EReal) + ((cr (K b t) d : EReal) - (z xr wr br b t d : EReal)) = _
  rw [← EReal.coe_sub, ← EReal.coe_add]
  refine congrArg _ ?_
  ring

include hx hw hb hc hK in
/-- The chosen codes with every position doubled. -/
theorem v34_at (b : Fin 16) (d : Fin 32) (l : Fin 8192) :
    val_main_v34 (F := Ideal) x w bi cb (ix3 b d l) = (cr (K b (⟨l.val / 2, by omega⟩ : Fin 4096)) d : EReal) := by
  rw [val_main_v34_apply, val_main_v33_apply, val_main_v32_apply,
    show idx_main_v32 (idx_main_v33 (idx_main_v34 (ix3 b d l))) = ix3 b (⟨l.val / 2, by omega⟩ : Fin 4096) d from funext fun a => Fin.ext (by
      match a with
      | ⟨0, _⟩ => show ((b.val * 32 + d.val) * 8192 + l.val) / 262144 = b.val; omega
      | ⟨1, _⟩ => show ((b.val * 32 + d.val) * 8192 + l.val) / 2 % 4096 = l.val / 2; omega
      | ⟨2, _⟩ => show ((b.val * 32 + d.val) * 8192 + l.val) / 8192 % 32 = d.val; omega)]
  exact v31_at x w bi cb hx hw hb hc hK b _ d

include hx hw hb hc hK in
/-- The output at an entry. -/
theorem v42_at (b : Fin 16) (o : Fin 256) (l : Fin 8192) :
    val_main_v42 (F := Ideal) x mk w bi cb wo bo (ix3 b o l)
      = ((∑ d : Fin 32, wo (ix3 o d (0 : Fin 1)) * (cr (K b (⟨l.val / 2, by omega⟩ : Fin 4096)) d : EReal)) + bo (ix1 o) : EReal)
          * mk (ix3 b (0 : Fin 1) l) := by
  have e37 : val_main_v37 (F := Ideal) x w bi cb wo (ix3 b o l)
      = (∑ d : Fin 32, wo (ix3 o d (0 : Fin 1)) * (cr (K b (⟨l.val / 2, by omega⟩ : Fin 4096)) d : EReal) : EReal) := by
    rw [val_main_v37_apply, val_main_v36_apply]
    refine Finset.sum_congr rfl fun d _ => ?_
    rw [show lidx_main_v36 (idx_main_v37 (ix3 b o l)) d = ix3 b d l from
        funext fun a => match a with | ⟨0, _⟩ => rfl | ⟨1, _⟩ => rfl | ⟨2, _⟩ => rfl,
      v34_at x w bi cb hx hw hb hc hK, val_main_v35_apply,
      show idx_main_v35 (ridx_main_v36 (idx_main_v37 (ix3 b o l)) d) = ix3 o d (0 : Fin 1) from funext fun a => Fin.ext (by
        match a with
        | ⟨0, _⟩ => show (o.val * 32 + d.val) / 32 = o.val; omega
        | ⟨1, _⟩ => show (o.val * 32 + d.val) / 1 % 32 = d.val; omega
        | ⟨2, _⟩ => rfl)]
    exact mul_comm _ _
  have e39 : val_main_v39 (F := Ideal) bo (ix3 b o l) = bo (ix1 o) := by
    rw [val_main_v39_apply, val_main_v38_apply,
      show idx_main_v38 (idx_main_v39 (ix3 b o l)) = ix1 o from funext fun a => match a with | ⟨0, _⟩ => rfl]
  have e41 : val_main_v41 (F := Ideal) mk (ix3 b o l) = mk (ix3 b (0 : Fin 1) l) := by
    rw [val_main_v41_apply,
      show idx_main_v41 (ix3 b o l) = ix3 b (0 : Fin 1) l from
        funext fun a => match a with | ⟨0, _⟩ => rfl | ⟨1, _⟩ => rfl | ⟨2, _⟩ => rfl]
  rw [val_main_v42_apply, val_main_v40_apply, e37, e39, e41]
  rfl

include hx hw hb hc hK in
/-- The sum of the squared differences. -/
theorem v28_at (i : S_.Idx) :
    val_main_v28 (F := Ideal) x w bi cb i = ((∑ b : Fin 16, ∑ t : Fin 4096, sqd cr (z xr wr br b t) (K b t) : ℝ) : EReal) := by
  rw [val_main_v28_apply, val_main_cst_2_apply, coe_sum]
  refine (congrArg (· + _) Ideal.ofBits_zero_f32).trans ((zero_add _).trans ?_)
  refine (sum_axes3 (n0 := 16) (n1 := 4096) (n2 := 32) (val_main_v27 (F := Ideal) x w bi cb)).trans ?_
  refine Finset.sum_congr rfl fun b _ => ?_
  rw [coe_sum]
  refine Finset.sum_congr rfl fun t _ => ?_
  unfold sqd
  rw [coe_sum]
  refine Finset.sum_congr rfl fun d _ => ?_
  rw [val_main_v27_apply, val_main_v25_apply, val_main_v26_apply, v24_at x w bi cb hx hw hb hc hK, v6_at x w bi hx hw hb,
    EReal.coe_mul, EReal.coe_sub]
  rfl

include hx hw hb hc hK in
/-- The loss. -/
theorem v43_at (i : S1x1.Idx) : val_main_v43 (F := Ideal) x w bi cb i = (loss xr wr br cr K : EReal) := by
  have e : ∀ j : S_.Idx, val_main_v29 (F := Ideal) x w bi cb j = (loss xr wr br cr K : EReal) := fun j => by
    rw [val_main_v29_apply, v28_at x w bi cb hx hw hb hc hK, val_main_cst_3_apply]
    refine (congrArg (Ideal.div _) ofBits_count).trans ?_
    unfold Ideal.div loss
    rw [if_neg (fun h => by have := EReal.coe_eq_zero.mp h; norm_num at this), ← EReal.coe_inv, ← EReal.coe_mul, div_eq_mul_inv]
  unfold val_main_v43 shapeCast
  exact e _

end Real

end Cert.RefRead
-- ==== Proof.Equal.lean ====
/-
The two programs' results agree: under the precondition every entry is a real number and every latent has one nearest code, and
at real entries the kernel's arrays and the reference's have been read to the same terms.
-/
module

public import proofs.«01_k».proof.Proof.Pre
public import proofs.«01_k».proof.Proof.K.Values
public import proofs.«01_k».proof.Proof.Ref.Values

@[expose] public section

noncomputable section

namespace Cert.Equal

open Cert.ReferenceIdeal Idealize.ShloMosaic Idealize.ShloMosaic.ValueIdx Cert.Spec

variable (x : Vec Ideal S16x256x8192 .f32) (mk : Vec Ideal S16x1x8192 .f32) (w : Vec Ideal S32x256x2 .f32) (bi : Vec Ideal S32 .f32)
  (cb : Vec Ideal S512x32 .f32) (wo : Vec Ideal S256x32x1 .f32) (bo : Vec Ideal S256 .f32)

/-- The real arrays and the codes the precondition gives. -/
theorem reals (h : Cert.Pre_one_nearest.fn (F := Ideal) x mk w bi cb wo bo = fun _ => 1#1) :
    ∃ (xr : Fin 16 → Fin 256 → Fin 8192 → ℝ) (wr : Fin 32 → Fin 256 → Fin 2 → ℝ) (br : Fin 32 → ℝ) (cr : Fin 512 → Fin 32 → ℝ)
      (K : Fin 16 → Fin 4096 → Fin 512),
      (∀ b c l, x (ix3 b c l) = (xr b c l : EReal)) ∧ (∀ d c k, w (ix3 d c k) = (wr d c k : EReal))
        ∧ (∀ d, bi (ix1 d) = (br d : EReal)) ∧ (∀ k d, cb (ix2 k d) = (cr k d : EReal)) ∧ Nearest xr wr br cr K := by
  have hr : ∀ r : Fin 65536, _ := fun r => Cert.PreRead.read x mk w bi cb wo bo r (congrFun h (ix1 r))
  obtain ⟨hx, hw, hb, hc, -⟩ := hr 0
  choose fx hx using hx
  choose fw hw using hw
  choose fb hb using hb
  choose fc hc using hc
  choose K hK using fun r => (hr r).2.2.2.2
  refine ⟨fun b c l => fx (ix3 b c l), fun d c k => fw (ix3 d c k), fun d => fb (ix1 d), fun k d => fc (ix2 k d),
    fun b t => K (Cert.RefRead.row b t), fun b c l => hx _, fun d c k => hw _, fun d => hb _, fun k d => hc _, fun b t k hk => ?_⟩
  have e := hK (Cert.RefRead.row b t) k hk
  rw [Cert.RefRead.v21_at x w bi cb (fun b c l => hx _) (fun d c k => hw _) (fun d => hb _) (fun k d => hc _) b t,
    Cert.RefRead.v21_at x w bi cb (fun b c l => hx _) (fun d c k => hw _) (fun d => hb _) (fun k d => hc _) b t] at e
  exact EReal.coe_lt_coe_iff.mp e

/-- The outputs agree. -/
theorem out_eq (h : Cert.Pre_one_nearest.fn (F := Ideal) x mk w bi cb wo bo = fun _ => 1#1) :
    Cert.RefRead.val_main_v42 (F := Ideal) x mk w bi cb wo bo = Cert.VQ.outArr (F := Ideal) x mk w bi cb wo bo := by
  obtain ⟨xr, wr, br, cr, K, hx, hw, hb, hc, hK⟩ := reals x mk w bi cb wo bo h
  funext i
  obtain ⟨b, o, l, rfl⟩ : ∃ (b : Fin 16) (o : Fin 256) (l : Fin 8192), i = ix3 b o l :=
    ⟨i 0, i 1, i 2, funext fun a => match a with | ⟨0, _⟩ => rfl | ⟨1, _⟩ => rfl | ⟨2, _⟩ => rfl⟩
  exact (Cert.RefRead.v42_at x mk w bi cb wo bo hx hw hb hc hK b o l).trans
    (Cert.VQ.outArr_apply x mk w bi cb wo bo hx hw hb hc hK b o l).symm

/-- The losses agree. -/
theorem loss_eq (h : Cert.Pre_one_nearest.fn (F := Ideal) x mk w bi cb wo bo = fun _ => 1#1) :
    Cert.RefRead.val_main_v43 (F := Ideal) x w bi cb = Cert.VQ.lossArr (F := Ideal) x w bi cb := by
  obtain ⟨xr, wr, br, cr, K, hx, hw, hb, hc, hK⟩ := reals x mk w bi cb wo bo h
  funext i
  exact (Cert.RefRead.v43_at x w bi cb hx hw hb hc hK i).trans (Cert.VQ.lossArr_apply x w bi cb hx hw hb hc hK i).symm

end Cert.Equal
-- ==== Proof.lean ====
/- The certificate: the programs' frames, that the idealised kernel is the kernel's own text, and that the kernel's two results are
   the reference's under `one_nearest`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_one_nearest
public import proofs.«01_k».proof.Proof.K.Arr
public import proofs.«01_k».proof.Proof.Ref.Run
public import proofs.«01_k».proof.Proof.Ref.Read
public import proofs.«01_k».proof.Proof.Equal
public import Idealize.ShloMosaic.Adequacy
public import Idealize.ShloMosaic.Init

@[expose] public section

noncomputable section

namespace Cert.Proof

open Idealize.ShloMosaic Idealize.SL.Sem

/-- The reference leaves its arguments as they were and every semaphore at zero. -/
theorem frameReference : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.RefRun.run (F := Ideal) m g)

/-- The kernel's results are the reference's. -/
theorem results : Cert.algebraic_KernelIdeal_ReferenceIdeal_pre_one_nearest (hKernelIdeal := Cert.KernelIdeal.Gen.facts)
    (hReferenceIdeal := Cert.ReferenceIdeal.Gen.facts) (hPre_one_nearest := Cert.Pre_one_nearest.Gen.facts) := by
  intro m g m' g' hp ha
  refine ⟨_, _, Cert.VQ.run (F := Ideal) m g, (θ_run _ _ _).mono (fun r h c => ?_) (Cert.RefRun.run (F := Ideal) m' g')⟩
  obtain ⟨h0, h1, hu⟩ := h c
  obtain ⟨a0, a1, a2, a3, a4, a5, a6⟩ := ha c
  refine ⟨h0.trans ?_, h1.trans ?_, hu⟩
  · rw [Cert.RefRead.val_main_v42_eq, a0, a1, a2, a3, a4, a5, a6]
    exact Cert.Equal.out_eq _ _ _ _ _ _ _ (hp c)
  · rw [Cert.RefRead.val_main_v43_eq, a0, a2, a3, a4]
    exact Cert.Equal.loss_eq _ _ _ _ _ _ _ (hp c)

theorem claim : Cert.Claim :=
  ⟨Cert.Kernel.Gen.facts, Cert.KernelIdeal.Gen.facts, Cert.ReferenceIdeal.Gen.facts, Cert.Pre_one_nearest.Gen.facts,
    fun m g _ => Cert.Kernel.Gen.frame m g, fun m g _ => Cert.KernelIdeal.Gen.frame m g, fun m g _ => Cert.KernelIdeal.Gen.frame m g,
    frameReference, fun m g _ => frameReference m g trivial, trivial, results⟩

end Cert.Proof

end
